-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v496) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x128x128x256 : Shape := ⟨4, ![8, 128, 128, 256]⟩
abbrev S_ : Shape := ⟨0, ![]⟩
abbrev S8x128x136x264 : Shape := ⟨4, ![8, 128, 136, 264]⟩
abbrev S8x81x128x256 : Shape := ⟨4, ![8, 81, 128, 256]⟩
abbrev S1x32x128x256 : Shape := ⟨4, ![1, 32, 128, 256]⟩
abbrev S1x32x136x264 : Shape := ⟨4, ![1, 32, 136, 264]⟩
abbrev S1x81x128x256 : Shape := ⟨4, ![1, 81, 128, 256]⟩
abbrev S2x32x136x256 : Shape := ⟨4, ![2, 32, 136, 256]⟩
abbrev S1x32x136x256 : Shape := ⟨4, ![1, 32, 136, 256]⟩
abbrev S32x136x256 : Shape := ⟨3, ![32, 136, 256]⟩
abbrev S1x1x128x128 : Shape := ⟨4, ![1, 1, 128, 128]⟩
abbrev S128x128 : Shape := ⟨2, ![128, 128]⟩

abbrev nBuf : Space → Nat
  | .hbm => 6
  | .vmem => 7
  | .smem => 0
  | _ => 0

abbrev bufTy : (tb : Table) → Fin (tcTables nBuf tb) → BufTy
  | .hbm, ⟨0, _⟩ => ⟨S8x128x128x256, .f32⟩
  | .hbm, ⟨1, _⟩ => ⟨S8x128x128x256, .f32⟩
  | .hbm, ⟨2, _⟩ => ⟨S_, .i32⟩
  | .hbm, ⟨3, _⟩ => ⟨S_, .f32⟩
  | .hbm, ⟨4, _⟩ => ⟨S8x128x136x264, .f32⟩
  | .hbm, ⟨5, _⟩ => ⟨S8x81x128x256, .f32⟩
  | .local _ .vmem, ⟨0, _⟩ => ⟨S1x32x128x256, .f32⟩
  | .local _ .vmem, ⟨1, _⟩ => ⟨S1x32x128x256, .f32⟩
  | .local _ .vmem, ⟨2, _⟩ => ⟨S1x32x136x264, .f32⟩
  | .local _ .vmem, ⟨3, _⟩ => ⟨S1x32x136x264, .f32⟩
  | .local _ .vmem, ⟨4, _⟩ => ⟨S1x81x128x256, .f32⟩
  | .local _ .vmem, ⟨5, _⟩ => ⟨S1x81x128x256, .f32⟩
  | .local _ .vmem, ⟨6, _⟩ => ⟨S2x32x136x256, .f32⟩
  | _, _ => ⟨S8x128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x136x264 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x81x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceIdeal.lean ====
abbrev S8x128x128x256 : Shape := ⟨4, ![8, 128, 128, 256]⟩
abbrev S_ : Shape := ⟨0, ![]⟩
abbrev S8x128x136x264 : Shape := ⟨4, ![8, 128, 136, 264]⟩
abbrev S8x128x256 : Shape := ⟨3, ![8, 128, 256]⟩
abbrev S8x1x128x256 : Shape := ⟨4, ![8, 1, 128, 256]⟩
abbrev S8x9x128x256 : Shape := ⟨4, ![8, 9, 128, 256]⟩
abbrev S8x81x128x256 : Shape := ⟨4, ![8, 81, 128, 256]⟩

abbrev nBuf : Space → Nat
  | .hbm => 663
  | .vmem => 0
  | .smem => 0
  | _ => 0

abbrev hbmTy0_0 (i : Nat) : BufTy := match i % 128 with
  | 0 => ⟨S8x128x128x256, .f32⟩
  | 1 => ⟨S8x128x128x256, .f32⟩
  | 2 => ⟨S_, .i32⟩
  | 3 => ⟨S_, .f32⟩
  | 4 => ⟨S8x128x136x264, .f32⟩
  | 5 => ⟨S8x128x128x256, .f32⟩
  | 6 => ⟨S8x128x128x256, .f32⟩
  | 7 => ⟨S_, .f32⟩
  | 8 => ⟨S8x128x256, .f32⟩
  | 9 => ⟨S_, .f32⟩
  | 10 => ⟨S8x128x256, .f32⟩
  | 11 => ⟨S8x128x256, .f32⟩
  | 12 => ⟨S8x128x128x256, .f32⟩
  | 13 => ⟨S8x128x128x256, .f32⟩
  | 14 => ⟨S_, .f32⟩
  | 15 => ⟨S8x128x256, .f32⟩
  | 16 => ⟨S_, .f32⟩
  | 17 => ⟨S8x128x256, .f32⟩
  | 18 => ⟨S8x128x256, .f32⟩
  | 19 => ⟨S8x128x128x256, .f32⟩
  | 20 => ⟨S8x128x128x256, .f32⟩
  | 21 => ⟨S_, .f32⟩
  | 22 => ⟨S8x128x256, .f32⟩
  | 23 => ⟨S_, .f32⟩
  | 24 => ⟨S8x128x256, .f32⟩
  | 25 => ⟨S8x128x256, .f32⟩
  | 26 => ⟨S8x128x128x256, .f32⟩
  | 27 => ⟨S8x128x128x256, .f32⟩
  | 28 => ⟨S_, .f32⟩
  | 29 => ⟨S8x128x256, .f32⟩
  | 30 => ⟨S_, .f32⟩
  | 31 => ⟨S8x128x256, .f32⟩
  | 32 => ⟨S8x128x256, .f32⟩
  | 33 => ⟨S8x128x128x256, .f32⟩
  | 34 => ⟨S8x128x128x256, .f32⟩
  | 35 => ⟨S_, .f32⟩
  | 36 => ⟨S8x128x256, .f32⟩
  | 37 => ⟨S_, .f32⟩
  | 38 => ⟨S8x128x256, .f32⟩
  | 39 => ⟨S8x128x256, .f32⟩
  | 40 => ⟨S8x128x128x256, .f32⟩
  | 41 => ⟨S8x128x128x256, .f32⟩
  | 42 => ⟨S_, .f32⟩
  | 43 => ⟨S8x128x256, .f32⟩
  | 44 => ⟨S_, .f32⟩
  | 45 => ⟨S8x128x256, .f32⟩
  | 46 => ⟨S8x128x256, .f32⟩
  | 47 => ⟨S8x128x128x256, .f32⟩
  | 48 => ⟨S8x128x128x256, .f32⟩
  | 49 => ⟨S_, .f32⟩
  | 50 => ⟨S8x128x256, .f32⟩
  | 51 => ⟨S_, .f32⟩
  | 52 => ⟨S8x128x256, .f32⟩
  | 53 => ⟨S8x128x256, .f32⟩
  | 54 => ⟨S8x128x128x256, .f32⟩
  | 55 => ⟨S8x128x128x256, .f32⟩
  | 56 => ⟨S_, .f32⟩
  | 57 => ⟨S8x128x256, .f32⟩
  | 58 => ⟨S_, .f32⟩
  | 59 => ⟨S8x128x256, .f32⟩
  | 60 => ⟨S8x128x256, .f32⟩
  | 61 => ⟨S8x128x128x256, .f32⟩
  | 62 => ⟨S8x128x128x256, .f32⟩
  | 63 => ⟨S_, .f32⟩
  | 64 => ⟨S8x128x256, .f32⟩
  | 65 => ⟨S_, .f32⟩
  | 66 => ⟨S8x128x256, .f32⟩
  | 67 => ⟨S8x128x256, .f32⟩
  | 68 => ⟨S8x1x128x256, .f32⟩
  | 69 => ⟨S8x1x128x256, .f32⟩
  | 70 => ⟨S8x1x128x256, .f32⟩
  | 71 => ⟨S8x1x128x256, .f32⟩
  | 72 => ⟨S8x1x128x256, .f32⟩
  | 73 => ⟨S8x1x128x256, .f32⟩
  | 74 => ⟨S8x1x128x256, .f32⟩
  | 75 => ⟨S8x1x128x256, .f32⟩
  | 76 => ⟨S8x1x128x256, .f32⟩
  | 77 => ⟨S8x9x128x256, .f32⟩
  | 78 => ⟨S8x128x128x256, .f32⟩
  | 79 => ⟨S8x128x128x256, .f32⟩
  | 80 => ⟨S_, .f32⟩
  | 81 => ⟨S8x128x256, .f32⟩
  | 82 => ⟨S_, .f32⟩
  | 83 => ⟨S8x128x256, .f32⟩
  | 84 => ⟨S8x128x256, .f32⟩
  | 85 => ⟨S8x128x128x256, .f32⟩
  | 86 => ⟨S8x128x128x256, .f32⟩
  | 87 => ⟨S_, .f32⟩
  | 88 => ⟨S8x128x256, .f32⟩
  | 89 => ⟨S_, .f32⟩
  | 90 => ⟨S8x128x256, .f32⟩
  | 91 => ⟨S8x128x256, .f32⟩
  | 92 => ⟨S8x128x128x256, .f32⟩
  | 93 => ⟨S8x128x128x256, .f32⟩
  | 94 => ⟨S_, .f32⟩
  | 95 => ⟨S8x128x256, .f32⟩
  | 96 => ⟨S_, .f32⟩
  | 97 => ⟨S8x128x256, .f32⟩
  | 98 => ⟨S8x128x256, .f32⟩
  | 99 => ⟨S8x128x128x256, .f32⟩
  | 100 => ⟨S8x128x128x256, .f32⟩
  | 101 => ⟨S_, .f32⟩
  | 102 => ⟨S8x128x256, .f32⟩
  | 103 => ⟨S_, .f32⟩
  | 104 => ⟨S8x128x256, .f32⟩
  | 105 => ⟨S8x128x256, .f32⟩
  | 106 => ⟨S8x128x128x256, .f32⟩
  | 107 => ⟨S8x128x128x256, .f32⟩
  | 108 => ⟨S_, .f32⟩
  | 109 => ⟨S8x128x256, .f32⟩
  | 110 => ⟨S_, .f32⟩
  | 111 => ⟨S8x128x256, .f32⟩
  | 112 => ⟨S8x128x256, .f32⟩
  | 113 => ⟨S8x128x128x256, .f32⟩
  | 114 => ⟨S8x128x128x256, .f32⟩
  | 115 => ⟨S_, .f32⟩
  | 116 => ⟨S8x128x256, .f32⟩
  | 117 => ⟨S_, .f32⟩
  | 118 => ⟨S8x128x256, .f32⟩
  | 119 => ⟨S8x128x256, .f32⟩
  | 120 => ⟨S8x128x128x256, .f32⟩
  | 121 => ⟨S8x128x128x256, .f32⟩
  | 122 => ⟨S_, .f32⟩
  | 123 => ⟨S8x128x256, .f32⟩
  | 124 => ⟨S_, .f32⟩
  | 125 => ⟨S8x128x256, .f32⟩
  | 126 => ⟨S8x128x256, .f32⟩
  | 127 => ⟨S8x128x128x256, .f32⟩
  | _ => ⟨S8x128x128x256, .f32⟩

abbrev hbmTy0_1 (i : Nat) : BufTy := match i % 128 with
  | 0 => ⟨S8x128x128x256, .f32⟩
  | 1 => ⟨S_, .f32⟩
  | 2 => ⟨S8x128x256, .f32⟩
  | 3 => ⟨S_, .f32⟩
  | 4 => ⟨S8x128x256, .f32⟩
  | 5 => ⟨S8x128x256, .f32⟩
  | 6 => ⟨S8x128x128x256, .f32⟩
  | 7 => ⟨S8x128x128x256, .f32⟩
  | 8 => ⟨S_, .f32⟩
  | 9 => ⟨S8x128x256, .f32⟩
  | 10 => ⟨S_, .f32⟩
  | 11 => ⟨S8x128x256, .f32⟩
  | 12 => ⟨S8x128x256, .f32⟩
  | 13 => ⟨S8x1x128x256, .f32⟩
  | 14 => ⟨S8x1x128x256, .f32⟩
  | 15 => ⟨S8x1x128x256, .f32⟩
  | 16 => ⟨S8x1x128x256, .f32⟩
  | 17 => ⟨S8x1x128x256, .f32⟩
  | 18 => ⟨S8x1x128x256, .f32⟩
  | 19 => ⟨S8x1x128x256, .f32⟩
  | 20 => ⟨S8x1x128x256, .f32⟩
  | 21 => ⟨S8x1x128x256, .f32⟩
  | 22 => ⟨S8x9x128x256, .f32⟩
  | 23 => ⟨S8x128x128x256, .f32⟩
  | 24 => ⟨S8x128x128x256, .f32⟩
  | 25 => ⟨S_, .f32⟩
  | 26 => ⟨S8x128x256, .f32⟩
  | 27 => ⟨S_, .f32⟩
  | 28 => ⟨S8x128x256, .f32⟩
  | 29 => ⟨S8x128x256, .f32⟩
  | 30 => ⟨S8x128x128x256, .f32⟩
  | 31 => ⟨S8x128x128x256, .f32⟩
  | 32 => ⟨S_, .f32⟩
  | 33 => ⟨S8x128x256, .f32⟩
  | 34 => ⟨S_, .f32⟩
  | 35 => ⟨S8x128x256, .f32⟩
  | 36 => ⟨S8x128x256, .f32⟩
  | 37 => ⟨S8x128x128x256, .f32⟩
  | 38 => ⟨S8x128x128x256, .f32⟩
  | 39 => ⟨S_, .f32⟩
  | 40 => ⟨S8x128x256, .f32⟩
  | 41 => ⟨S_, .f32⟩
  | 42 => ⟨S8x128x256, .f32⟩
  | 43 => ⟨S8x128x256, .f32⟩
  | 44 => ⟨S8x128x128x256, .f32⟩
  | 45 => ⟨S8x128x128x256, .f32⟩
  | 46 => ⟨S_, .f32⟩
  | 47 => ⟨S8x128x256, .f32⟩
  | 48 => ⟨S_, .f32⟩
  | 49 => ⟨S8x128x256, .f32⟩
  | 50 => ⟨S8x128x256, .f32⟩
  | 51 => ⟨S8x128x128x256, .f32⟩
  | 52 => ⟨S8x128x128x256, .f32⟩
  | 53 => ⟨S_, .f32⟩
  | 54 => ⟨S8x128x256, .f32⟩
  | 55 => ⟨S_, .f32⟩
  | 56 => ⟨S8x128x256, .f32⟩
  | 57 => ⟨S8x128x256, .f32⟩
  | 58 => ⟨S8x128x128x256, .f32⟩
  | 59 => ⟨S8x128x128x256, .f32⟩
  | 60 => ⟨S_, .f32⟩
  | 61 => ⟨S8x128x256, .f32⟩
  | 62 => ⟨S_, .f32⟩
  | 63 => ⟨S8x128x256, .f32⟩
  | 64 => ⟨S8x128x256, .f32⟩
  | 65 => ⟨S8x128x128x256, .f32⟩
  | 66 => ⟨S8x128x128x256, .f32⟩
  | 67 => ⟨S_, .f32⟩
  | 68 => ⟨S8x128x256, .f32⟩
  | 69 => ⟨S_, .f32⟩
  | 70 => ⟨S8x128x256, .f32⟩
  | 71 => ⟨S8x128x256, .f32⟩
  | 72 => ⟨S8x128x128x256, .f32⟩
  | 73 => ⟨S8x128x128x256, .f32⟩
  | 74 => ⟨S_, .f32⟩
  | 75 => ⟨S8x128x256, .f32⟩
  | 76 => ⟨S_, .f32⟩
  | 77 => ⟨S8x128x256, .f32⟩
  | 78 => ⟨S8x128x256, .f32⟩
  | 79 => ⟨S8x128x128x256, .f32⟩
  | 80 => ⟨S8x128x128x256, .f32⟩
  | 81 => ⟨S_, .f32⟩
  | 82 => ⟨S8x128x256, .f32⟩
  | 83 => ⟨S_, .f32⟩
  | 84 => ⟨S8x128x256, .f32⟩
  | 85 => ⟨S8x128x256, .f32⟩
  | 86 => ⟨S8x1x128x256, .f32⟩
  | 87 => ⟨S8x1x128x256, .f32⟩
  | 88 => ⟨S8x1x128x256, .f32⟩
  | 89 => ⟨S8x1x128x256, .f32⟩
  | 90 => ⟨S8x1x128x256, .f32⟩
  | 91 => ⟨S8x1x128x256, .f32⟩
  | 92 => ⟨S8x1x128x256, .f32⟩
  | 93 => ⟨S8x1x128x256, .f32⟩
  | 94 => ⟨S8x1x128x256, .f32⟩
  | 95 => ⟨S8x9x128x256, .f32⟩
  | 96 => ⟨S8x128x128x256, .f32⟩
  | 97 => ⟨S8x128x128x256, .f32⟩
  | 98 => ⟨S_, .f32⟩
  | 99 => ⟨S8x128x256, .f32⟩
  | 100 => ⟨S_, .f32⟩
  | 101 => ⟨S8x128x256, .f32⟩
  | 102 => ⟨S8x128x256, .f32⟩
  | 103 => ⟨S8x128x128x256, .f32⟩
  | 104 => ⟨S8x128x128x256, .f32⟩
  | 105 => ⟨S_, .f32⟩
  | 106 => ⟨S8x128x256, .f32⟩
  | 107 => ⟨S_, .f32⟩
  | 108 => ⟨S8x128x256, .f32⟩
  | 109 => ⟨S8x128x256, .f32⟩
  | 110 => ⟨S8x128x128x256, .f32⟩
  | 111 => ⟨S8x128x128x256, .f32⟩
  | 112 => ⟨S_, .f32⟩
  | 113 => ⟨S8x128x256, .f32⟩
  | 114 => ⟨S_, .f32⟩
  | 115 => ⟨S8x128x256, .f32⟩
  | 116 => ⟨S8x128x256, .f32⟩
  | 117 => ⟨S8x128x128x256, .f32⟩
  | 118 => ⟨S8x128x128x256, .f32⟩
  | 119 => ⟨S_, .f32⟩
  | 120 => ⟨S8x128x256, .f32⟩
  | 121 => ⟨S_, .f32⟩
  | 122 => ⟨S8x128x256, .f32⟩
  | 123 => ⟨S8x128x256, .f32⟩
  | 124 => ⟨S8x128x128x256, .f32⟩
  | 125 => ⟨S8x128x128x256, .f32⟩
  | 126 => ⟨S_, .f32⟩
  | 127 => ⟨S8x128x256, .f32⟩
  | _ => ⟨S8x128x128x256, .f32⟩

abbrev hbmTy0_2 (i : Nat) : BufTy := match i % 128 with
  | 0 => ⟨S_, .f32⟩
  | 1 => ⟨S8x128x256, .f32⟩
  | 2 => ⟨S8x128x256, .f32⟩
  | 3 => ⟨S8x128x128x256, .f32⟩
  | 4 => ⟨S8x128x128x256, .f32⟩
  | 5 => ⟨S_, .f32⟩
  | 6 => ⟨S8x128x256, .f32⟩
  | 7 => ⟨S_, .f32⟩
  | 8 => ⟨S8x128x256, .f32⟩
  | 9 => ⟨S8x128x256, .f32⟩
  | 10 => ⟨S8x128x128x256, .f32⟩
  | 11 => ⟨S8x128x128x256, .f32⟩
  | 12 => ⟨S_, .f32⟩
  | 13 => ⟨S8x128x256, .f32⟩
  | 14 => ⟨S_, .f32⟩
  | 15 => ⟨S8x128x256, .f32⟩
  | 16 => ⟨S8x128x256, .f32⟩
  | 17 => ⟨S8x128x128x256, .f32⟩
  | 18 => ⟨S8x128x128x256, .f32⟩
  | 19 => ⟨S_, .f32⟩
  | 20 => ⟨S8x128x256, .f32⟩
  | 21 => ⟨S_, .f32⟩
  | 22 => ⟨S8x128x256, .f32⟩
  | 23 => ⟨S8x128x256, .f32⟩
  | 24 => ⟨S8x128x128x256, .f32⟩
  | 25 => ⟨S8x128x128x256, .f32⟩
  | 26 => ⟨S_, .f32⟩
  | 27 => ⟨S8x128x256, .f32⟩
  | 28 => ⟨S_, .f32⟩
  | 29 => ⟨S8x128x256, .f32⟩
  | 30 => ⟨S8x128x256, .f32⟩
  | 31 => ⟨S8x1x128x256, .f32⟩
  | 32 => ⟨S8x1x128x256, .f32⟩
  | 33 => ⟨S8x1x128x256, .f32⟩
  | 34 => ⟨S8x1x128x256, .f32⟩
  | 35 => ⟨S8x1x128x256, .f32⟩
  | 36 => ⟨S8x1x128x256, .f32⟩
  | 37 => ⟨S8x1x128x256, .f32⟩
  | 38 => ⟨S8x1x128x256, .f32⟩
  | 39 => ⟨S8x1x128x256, .f32⟩
  | 40 => ⟨S8x9x128x256, .f32⟩
  | 41 => ⟨S8x128x128x256, .f32⟩
  | 42 => ⟨S8x128x128x256, .f32⟩
  | 43 => ⟨S_, .f32⟩
  | 44 => ⟨S8x128x256, .f32⟩
  | 45 => ⟨S_, .f32⟩
  | 46 => ⟨S8x128x256, .f32⟩
  | 47 => ⟨S8x128x256, .f32⟩
  | 48 => ⟨S8x128x128x256, .f32⟩
  | 49 => ⟨S8x128x128x256, .f32⟩
  | 50 => ⟨S_, .f32⟩
  | 51 => ⟨S8x128x256, .f32⟩
  | 52 => ⟨S_, .f32⟩
  | 53 => ⟨S8x128x256, .f32⟩
  | 54 => ⟨S8x128x256, .f32⟩
  | 55 => ⟨S8x128x128x256, .f32⟩
  | 56 => ⟨S8x128x128x256, .f32⟩
  | 57 => ⟨S_, .f32⟩
  | 58 => ⟨S8x128x256, .f32⟩
  | 59 => ⟨S_, .f32⟩
  | 60 => ⟨S8x128x256, .f32⟩
  | 61 => ⟨S8x128x256, .f32⟩
  | 62 => ⟨S8x128x128x256, .f32⟩
  | 63 => ⟨S8x128x128x256, .f32⟩
  | 64 => ⟨S_, .f32⟩
  | 65 => ⟨S8x128x256, .f32⟩
  | 66 => ⟨S_, .f32⟩
  | 67 => ⟨S8x128x256, .f32⟩
  | 68 => ⟨S8x128x256, .f32⟩
  | 69 => ⟨S8x128x128x256, .f32⟩
  | 70 => ⟨S8x128x128x256, .f32⟩
  | 71 => ⟨S_, .f32⟩
  | 72 => ⟨S8x128x256, .f32⟩
  | 73 => ⟨S_, .f32⟩
  | 74 => ⟨S8x128x256, .f32⟩
  | 75 => ⟨S8x128x256, .f32⟩
  | 76 => ⟨S8x128x128x256, .f32⟩
  | 77 => ⟨S8x128x128x256, .f32⟩
  | 78 => ⟨S_, .f32⟩
  | 79 => ⟨S8x128x256, .f32⟩
  | 80 => ⟨S_, .f32⟩
  | 81 => ⟨S8x128x256, .f32⟩
  | 82 => ⟨S8x128x256, .f32⟩
  | 83 => ⟨S8x128x128x256, .f32⟩
  | 84 => ⟨S8x128x128x256, .f32⟩
  | 85 => ⟨S_, .f32⟩
  | 86 => ⟨S8x128x256, .f32⟩
  | 87 => ⟨S_, .f32⟩
  | 88 => ⟨S8x128x256, .f32⟩
  | 89 => ⟨S8x128x256, .f32⟩
  | 90 => ⟨S8x128x128x256, .f32⟩
  | 91 => ⟨S8x128x128x256, .f32⟩
  | 92 => ⟨S_, .f32⟩
  | 93 => ⟨S8x128x256, .f32⟩
  | 94 => ⟨S_, .f32⟩
  | 95 => ⟨S8x128x256, .f32⟩
  | 96 => ⟨S8x128x256, .f32⟩
  | 97 => ⟨S8x128x128x256, .f32⟩
  | 98 => ⟨S8x128x128x256, .f32⟩
  | 99 => ⟨S_, .f32⟩
  | 100 => ⟨S8x128x256, .f32⟩
  | 101 => ⟨S_, .f32⟩
  | 102 => ⟨S8x128x256, .f32⟩
  | 103 => ⟨S8x128x256, .f32⟩
  | 104 => ⟨S8x1x128x256, .f32⟩
  | 105 => ⟨S8x1x128x256, .f32⟩
  | 106 => ⟨S8x1x128x256, .f32⟩
  | 107 => ⟨S8x1x128x256, .f32⟩
  | 108 => ⟨S8x1x128x256, .f32⟩
  | 109 => ⟨S8x1x128x256, .f32⟩
  | 110 => ⟨S8x1x128x256, .f32⟩
  | 111 => ⟨S8x1x128x256, .f32⟩
  | 112 => ⟨S8x1x128x256, .f32⟩
  | 113 => ⟨S8x9x128x256, .f32⟩
  | 114 => ⟨S8x128x128x256, .f32⟩
  | 115 => ⟨S8x128x128x256, .f32⟩
  | 116 => ⟨S_, .f32⟩
  | 117 => ⟨S8x128x256, .f32⟩
  | 118 => ⟨S_, .f32⟩
  | 119 => ⟨S8x128x256, .f32⟩
  | 120 => ⟨S8x128x256, .f32⟩
  | 121 => ⟨S8x128x128x256, .f32⟩
  | 122 => ⟨S8x128x128x256, .f32⟩
  | 123 => ⟨S_, .f32⟩
  | 124 => ⟨S8x128x256, .f32⟩
  | 125 => ⟨S_, .f32⟩
  | 126 => ⟨S8x128x256, .f32⟩
  | 127 => ⟨S8x128x256, .f32⟩
  | _ => ⟨S8x128x128x256, .f32⟩

abbrev hbmTy0_3 (i : Nat) : BufTy := match i % 128 with
  | 0 => ⟨S8x128x128x256, .f32⟩
  | 1 => ⟨S8x128x128x256, .f32⟩
  | 2 => ⟨S_, .f32⟩
  | 3 => ⟨S8x128x256, .f32⟩
  | 4 => ⟨S_, .f32⟩
  | 5 => ⟨S8x128x256, .f32⟩
  | 6 => ⟨S8x128x256, .f32⟩
  | 7 => ⟨S8x128x128x256, .f32⟩
  | 8 => ⟨S8x128x128x256, .f32⟩
  | 9 => ⟨S_, .f32⟩
  | 10 => ⟨S8x128x256, .f32⟩
  | 11 => ⟨S_, .f32⟩
  | 12 => ⟨S8x128x256, .f32⟩
  | 13 => ⟨S8x128x256, .f32⟩
  | 14 => ⟨S8x128x128x256, .f32⟩
  | 15 => ⟨S8x128x128x256, .f32⟩
  | 16 => ⟨S_, .f32⟩
  | 17 => ⟨S8x128x256, .f32⟩
  | 18 => ⟨S_, .f32⟩
  | 19 => ⟨S8x128x256, .f32⟩
  | 20 => ⟨S8x128x256, .f32⟩
  | 21 => ⟨S8x128x128x256, .f32⟩
  | 22 => ⟨S8x128x128x256, .f32⟩
  | 23 => ⟨S_, .f32⟩
  | 24 => ⟨S8x128x256, .f32⟩
  | 25 => ⟨S_, .f32⟩
  | 26 => ⟨S8x128x256, .f32⟩
  | 27 => ⟨S8x128x256, .f32⟩
  | 28 => ⟨S8x128x128x256, .f32⟩
  | 29 => ⟨S8x128x128x256, .f32⟩
  | 30 => ⟨S_, .f32⟩
  | 31 => ⟨S8x128x256, .f32⟩
  | 32 => ⟨S_, .f32⟩
  | 33 => ⟨S8x128x256, .f32⟩
  | 34 => ⟨S8x128x256, .f32⟩
  | 35 => ⟨S8x128x128x256, .f32⟩
  | 36 => ⟨S8x128x128x256, .f32⟩
  | 37 => ⟨S_, .f32⟩
  | 38 => ⟨S8x128x256, .f32⟩
  | 39 => ⟨S_, .f32⟩
  | 40 => ⟨S8x128x256, .f32⟩
  | 41 => ⟨S8x128x256, .f32⟩
  | 42 => ⟨S8x128x128x256, .f32⟩
  | 43 => ⟨S8x128x128x256, .f32⟩
  | 44 => ⟨S_, .f32⟩
  | 45 => ⟨S8x128x256, .f32⟩
  | 46 => ⟨S_, .f32⟩
  | 47 => ⟨S8x128x256, .f32⟩
  | 48 => ⟨S8x128x256, .f32⟩
  | 49 => ⟨S8x1x128x256, .f32⟩
  | 50 => ⟨S8x1x128x256, .f32⟩
  | 51 => ⟨S8x1x128x256, .f32⟩
  | 52 => ⟨S8x1x128x256, .f32⟩
  | 53 => ⟨S8x1x128x256, .f32⟩
  | 54 => ⟨S8x1x128x256, .f32⟩
  | 55 => ⟨S8x1x128x256, .f32⟩
  | 56 => ⟨S8x1x128x256, .f32⟩
  | 57 => ⟨S8x1x128x256, .f32⟩
  | 58 => ⟨S8x9x128x256, .f32⟩
  | 59 => ⟨S8x128x128x256, .f32⟩
  | 60 => ⟨S8x128x128x256, .f32⟩
  | 61 => ⟨S_, .f32⟩
  | 62 => ⟨S8x128x256, .f32⟩
  | 63 => ⟨S_, .f32⟩
  | 64 => ⟨S8x128x256, .f32⟩
  | 65 => ⟨S8x128x256, .f32⟩
  | 66 => ⟨S8x128x128x256, .f32⟩
  | 67 => ⟨S8x128x128x256, .f32⟩
  | 68 => ⟨S_, .f32⟩
  | 69 => ⟨S8x128x256, .f32⟩
  | 70 => ⟨S_, .f32⟩
  | 71 => ⟨S8x128x256, .f32⟩
  | 72 => ⟨S8x128x256, .f32⟩
  | 73 => ⟨S8x128x128x256, .f32⟩
  | 74 => ⟨S8x128x128x256, .f32⟩
  | 75 => ⟨S_, .f32⟩
  | 76 => ⟨S8x128x256, .f32⟩
  | 77 => ⟨S_, .f32⟩
  | 78 => ⟨S8x128x256, .f32⟩
  | 79 => ⟨S8x128x256, .f32⟩
  | 80 => ⟨S8x128x128x256, .f32⟩
  | 81 => ⟨S8x128x128x256, .f32⟩
  | 82 => ⟨S_, .f32⟩
  | 83 => ⟨S8x128x256, .f32⟩
  | 84 => ⟨S_, .f32⟩
  | 85 => ⟨S8x128x256, .f32⟩
  | 86 => ⟨S8x128x256, .f32⟩
  | 87 => ⟨S8x128x128x256, .f32⟩
  | 88 => ⟨S8x128x128x256, .f32⟩
  | 89 => ⟨S_, .f32⟩
  | 90 => ⟨S8x128x256, .f32⟩
  | 91 => ⟨S_, .f32⟩
  | 92 => ⟨S8x128x256, .f32⟩
  | 93 => ⟨S8x128x256, .f32⟩
  | 94 => ⟨S8x128x128x256, .f32⟩
  | 95 => ⟨S8x128x128x256, .f32⟩
  | 96 => ⟨S_, .f32⟩
  | 97 => ⟨S8x128x256, .f32⟩
  | 98 => ⟨S_, .f32⟩
  | 99 => ⟨S8x128x256, .f32⟩
  | 100 => ⟨S8x128x256, .f32⟩
  | 101 => ⟨S8x128x128x256, .f32⟩
  | 102 => ⟨S8x128x128x256, .f32⟩
  | 103 => ⟨S_, .f32⟩
  | 104 => ⟨S8x128x256, .f32⟩
  | 105 => ⟨S_, .f32⟩
  | 106 => ⟨S8x128x256, .f32⟩
  | 107 => ⟨S8x128x256, .f32⟩
  | 108 => ⟨S8x128x128x256, .f32⟩
  | 109 => ⟨S8x128x128x256, .f32⟩
  | 110 => ⟨S_, .f32⟩
  | 111 => ⟨S8x128x256, .f32⟩
  | 112 => ⟨S_, .f32⟩
  | 113 => ⟨S8x128x256, .f32⟩
  | 114 => ⟨S8x128x256, .f32⟩
  | 115 => ⟨S8x128x128x256, .f32⟩
  | 116 => ⟨S8x128x128x256, .f32⟩
  | 117 => ⟨S_, .f32⟩
  | 118 => ⟨S8x128x256, .f32⟩
  | 119 => ⟨S_, .f32⟩
  | 120 => ⟨S8x128x256, .f32⟩
  | 121 => ⟨S8x128x256, .f32⟩
  | 122 => ⟨S8x1x128x256, .f32⟩
  | 123 => ⟨S8x1x128x256, .f32⟩
  | 124 => ⟨S8x1x128x256, .f32⟩
  | 125 => ⟨S8x1x128x256, .f32⟩
  | 126 => ⟨S8x1x128x256, .f32⟩
  | 127 => ⟨S8x1x128x256, .f32⟩
  | _ => ⟨S8x128x128x256, .f32⟩

abbrev hbmTy0_4 (i : Nat) : BufTy := match i % 128 with
  | 0 => ⟨S8x1x128x256, .f32⟩
  | 1 => ⟨S8x1x128x256, .f32⟩
  | 2 => ⟨S8x1x128x256, .f32⟩
  | 3 => ⟨S8x9x128x256, .f32⟩
  | 4 => ⟨S8x128x128x256, .f32⟩
  | 5 => ⟨S8x128x128x256, .f32⟩
  | 6 => ⟨S_, .f32⟩
  | 7 => ⟨S8x128x256, .f32⟩
  | 8 => ⟨S_, .f32⟩
  | 9 => ⟨S8x128x256, .f32⟩
  | 10 => ⟨S8x128x256, .f32⟩
  | 11 => ⟨S8x128x128x256, .f32⟩
  | 12 => ⟨S8x128x128x256, .f32⟩
  | 13 => ⟨S_, .f32⟩
  | 14 => ⟨S8x128x256, .f32⟩
  | 15 => ⟨S_, .f32⟩
  | 16 => ⟨S8x128x256, .f32⟩
  | 17 => ⟨S8x128x256, .f32⟩
  | 18 => ⟨S8x128x128x256, .f32⟩
  | 19 => ⟨S8x128x128x256, .f32⟩
  | 20 => ⟨S_, .f32⟩
  | 21 => ⟨S8x128x256, .f32⟩
  | 22 => ⟨S_, .f32⟩
  | 23 => ⟨S8x128x256, .f32⟩
  | 24 => ⟨S8x128x256, .f32⟩
  | 25 => ⟨S8x128x128x256, .f32⟩
  | 26 => ⟨S8x128x128x256, .f32⟩
  | 27 => ⟨S_, .f32⟩
  | 28 => ⟨S8x128x256, .f32⟩
  | 29 => ⟨S_, .f32⟩
  | 30 => ⟨S8x128x256, .f32⟩
  | 31 => ⟨S8x128x256, .f32⟩
  | 32 => ⟨S8x128x128x256, .f32⟩
  | 33 => ⟨S8x128x128x256, .f32⟩
  | 34 => ⟨S_, .f32⟩
  | 35 => ⟨S8x128x256, .f32⟩
  | 36 => ⟨S_, .f32⟩
  | 37 => ⟨S8x128x256, .f32⟩
  | 38 => ⟨S8x128x256, .f32⟩
  | 39 => ⟨S8x128x128x256, .f32⟩
  | 40 => ⟨S8x128x128x256, .f32⟩
  | 41 => ⟨S_, .f32⟩
  | 42 => ⟨S8x128x256, .f32⟩
  | 43 => ⟨S_, .f32⟩
  | 44 => ⟨S8x128x256, .f32⟩
  | 45 => ⟨S8x128x256, .f32⟩
  | 46 => ⟨S8x128x128x256, .f32⟩
  | 47 => ⟨S8x128x128x256, .f32⟩
  | 48 => ⟨S_, .f32⟩
  | 49 => ⟨S8x128x256, .f32⟩
  | 50 => ⟨S_, .f32⟩
  | 51 => ⟨S8x128x256, .f32⟩
  | 52 => ⟨S8x128x256, .f32⟩
  | 53 => ⟨S8x128x128x256, .f32⟩
  | 54 => ⟨S8x128x128x256, .f32⟩
  | 55 => ⟨S_, .f32⟩
  | 56 => ⟨S8x128x256, .f32⟩
  | 57 => ⟨S_, .f32⟩
  | 58 => ⟨S8x128x256, .f32⟩
  | 59 => ⟨S8x128x256, .f32⟩
  | 60 => ⟨S8x128x128x256, .f32⟩
  | 61 => ⟨S8x128x128x256, .f32⟩
  | 62 => ⟨S_, .f32⟩
  | 63 => ⟨S8x128x256, .f32⟩
  | 64 => ⟨S_, .f32⟩
  | 65 => ⟨S8x128x256, .f32⟩
  | 66 => ⟨S8x128x256, .f32⟩
  | 67 => ⟨S8x1x128x256, .f32⟩
  | 68 => ⟨S8x1x128x256, .f32⟩
  | 69 => ⟨S8x1x128x256, .f32⟩
  | 70 => ⟨S8x1x128x256, .f32⟩
  | 71 => ⟨S8x1x128x256, .f32⟩
  | 72 => ⟨S8x1x128x256, .f32⟩
  | 73 => ⟨S8x1x128x256, .f32⟩
  | 74 => ⟨S8x1x128x256, .f32⟩
  | 75 => ⟨S8x1x128x256, .f32⟩
  | 76 => ⟨S8x9x128x256, .f32⟩
  | 77 => ⟨S8x128x128x256, .f32⟩
  | 78 => ⟨S8x128x128x256, .f32⟩
  | 79 => ⟨S_, .f32⟩
  | 80 => ⟨S8x128x256, .f32⟩
  | 81 => ⟨S_, .f32⟩
  | 82 => ⟨S8x128x256, .f32⟩
  | 83 => ⟨S8x128x256, .f32⟩
  | 84 => ⟨S8x128x128x256, .f32⟩
  | 85 => ⟨S8x128x128x256, .f32⟩
  | 86 => ⟨S_, .f32⟩
  | 87 => ⟨S8x128x256, .f32⟩
  | 88 => ⟨S_, .f32⟩
  | 89 => ⟨S8x128x256, .f32⟩
  | 90 => ⟨S8x128x256, .f32⟩
  | 91 => ⟨S8x128x128x256, .f32⟩
  | 92 => ⟨S8x128x128x256, .f32⟩
  | 93 => ⟨S_, .f32⟩
  | 94 => ⟨S8x128x256, .f32⟩
  | 95 => ⟨S_, .f32⟩
  | 96 => ⟨S8x128x256, .f32⟩
  | 97 => ⟨S8x128x256, .f32⟩
  | 98 => ⟨S8x128x128x256, .f32⟩
  | 99 => ⟨S8x128x128x256, .f32⟩
  | 100 => ⟨S_, .f32⟩
  | 101 => ⟨S8x128x256, .f32⟩
  | 102 => ⟨S_, .f32⟩
  | 103 => ⟨S8x128x256, .f32⟩
  | 104 => ⟨S8x128x256, .f32⟩
  | 105 => ⟨S8x128x128x256, .f32⟩
  | 106 => ⟨S8x128x128x256, .f32⟩
  | 107 => ⟨S_, .f32⟩
  | 108 => ⟨S8x128x256, .f32⟩
  | 109 => ⟨S_, .f32⟩
  | 110 => ⟨S8x128x256, .f32⟩
  | 111 => ⟨S8x128x256, .f32⟩
  | 112 => ⟨S8x128x128x256, .f32⟩
  | 113 => ⟨S8x128x128x256, .f32⟩
  | 114 => ⟨S_, .f32⟩
  | 115 => ⟨S8x128x256, .f32⟩
  | 116 => ⟨S_, .f32⟩
  | 117 => ⟨S8x128x256, .f32⟩
  | 118 => ⟨S8x128x256, .f32⟩
  | 119 => ⟨S8x128x128x256, .f32⟩
  | 120 => ⟨S8x128x128x256, .f32⟩
  | 121 => ⟨S_, .f32⟩
  | 122 => ⟨S8x128x256, .f32⟩
  | 123 => ⟨S_, .f32⟩
  | 124 => ⟨S8x128x256, .f32⟩
  | 125 => ⟨S8x128x256, .f32⟩
  | 126 => ⟨S8x128x128x256, .f32⟩
  | 127 => ⟨S8x128x128x256, .f32⟩
  | _ => ⟨S8x128x128x256, .f32⟩

abbrev hbmTy0_5 (i : Nat) : BufTy := match i % 128 with
  | 0 => ⟨S_, .f32⟩
  | 1 => ⟨S8x128x256, .f32⟩
  | 2 => ⟨S_, .f32⟩
  | 3 => ⟨S8x128x256, .f32⟩
  | 4 => ⟨S8x128x256, .f32⟩
  | 5 => ⟨S8x128x128x256, .f32⟩
  | 6 => ⟨S8x128x128x256, .f32⟩
  | 7 => ⟨S_, .f32⟩
  | 8 => ⟨S8x128x256, .f32⟩
  | 9 => ⟨S_, .f32⟩
  | 10 => ⟨S8x128x256, .f32⟩
  | 11 => ⟨S8x128x256, .f32⟩
  | 12 => ⟨S8x1x128x256, .f32⟩
  | 13 => ⟨S8x1x128x256, .f32⟩
  | 14 => ⟨S8x1x128x256, .f32⟩
  | 15 => ⟨S8x1x128x256, .f32⟩
  | 16 => ⟨S8x1x128x256, .f32⟩
  | 17 => ⟨S8x1x128x256, .f32⟩
  | 18 => ⟨S8x1x128x256, .f32⟩
  | 19 => ⟨S8x1x128x256, .f32⟩
  | 20 => ⟨S8x1x128x256, .f32⟩
  | 21 => ⟨S8x9x128x256, .f32⟩
  | 22 => ⟨S8x81x128x256, .f32⟩
  | _ => ⟨S8x128x128x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x128x128x256, .f32⟩

abbrev bufTy : (tb : Table) → Fin (tcTables nBuf tb) → BufTy
  | .hbm, ⟨i, _⟩ => hbmTy i
  | _, _ => ⟨S8x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_cst_12 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_13 : Ref sig .tc := ⟨.hbm, 56, rfl⟩
abbrev main_v38 : Ref sig .tc := ⟨.hbm, 57, rfl⟩
abbrev main_cst_14 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_15 : Ref sig .tc := ⟨.hbm, 63, rfl⟩
abbrev main_v43 : Ref sig .tc := ⟨.hbm, 64, rfl⟩
abbrev main_cst_16 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_17 : Ref sig .tc := ⟨.hbm, 80, rfl⟩
abbrev main_v58 : Ref sig .tc := ⟨.hbm, 81, rfl⟩
abbrev main_cst_18 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_19 : Ref sig .tc := ⟨.hbm, 87, rfl⟩
abbrev main_v63 : Ref sig .tc := ⟨.hbm, 88, rfl⟩
abbrev main_cst_20 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_21 : Ref sig .tc := ⟨.hbm, 94, rfl⟩
abbrev main_v68 : Ref sig .tc := ⟨.hbm, 95, rfl⟩
abbrev main_cst_22 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_23 : Ref sig .tc := ⟨.hbm, 101, rfl⟩
abbrev main_v73 : Ref sig .tc := ⟨.hbm, 102, rfl⟩
abbrev main_cst_24 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_25 : Ref sig .tc := ⟨.hbm, 108, rfl⟩
abbrev main_v78 : Ref sig .tc := ⟨.hbm, 109, rfl⟩
abbrev main_cst_26 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_27 : Ref sig .tc := ⟨.hbm, 115, rfl⟩
abbrev main_v83 : Ref sig .tc := ⟨.hbm, 116, rfl⟩
abbrev main_cst_28 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_29 : Ref sig .tc := ⟨.hbm, 122, rfl⟩
abbrev main_v88 : Ref sig .tc := ⟨.hbm, 123, rfl⟩
abbrev main_cst_30 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_31 : Ref sig .tc := ⟨.hbm, 129, rfl⟩
abbrev main_v93 : Ref sig .tc := ⟨.hbm, 130, rfl⟩
abbrev main_cst_32 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_33 : Ref sig .tc := ⟨.hbm, 136, rfl⟩
abbrev main_v98 : Ref sig .tc := ⟨.hbm, 137, rfl⟩
abbrev main_cst_34 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_35 : Ref sig .tc := ⟨.hbm, 153, rfl⟩
abbrev main_v113 : Ref sig .tc := ⟨.hbm, 154, rfl⟩
abbrev main_cst_36 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_37 : Ref sig .tc := ⟨.hbm, 160, rfl⟩
abbrev main_v118 : Ref sig .tc := ⟨.hbm, 161, rfl⟩
abbrev main_cst_38 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_39 : Ref sig .tc := ⟨.hbm, 167, rfl⟩
abbrev main_v123 : Ref sig .tc := ⟨.hbm, 168, rfl⟩
abbrev main_cst_40 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_cst_41 : Ref sig .tc := ⟨.hbm, 174, rfl⟩
abbrev main_v128 : Ref sig .tc := ⟨.hbm, 175, rfl⟩
abbrev main_cst_42 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_cst_43 : Ref sig .tc := ⟨.hbm, 181, rfl⟩
abbrev main_v133 : Ref sig .tc := ⟨.hbm, 182, rfl⟩
abbrev main_cst_44 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_45 : Ref sig .tc := ⟨.hbm, 188, rfl⟩
abbrev main_v138 : Ref sig .tc := ⟨.hbm, 189, rfl⟩
abbrev main_cst_46 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_cst_47 : Ref sig .tc := ⟨.hbm, 195, rfl⟩
abbrev main_v143 : Ref sig .tc := ⟨.hbm, 196, rfl⟩
abbrev main_cst_48 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_cst_49 : Ref sig .tc := ⟨.hbm, 202, rfl⟩
abbrev main_v148 : Ref sig .tc := ⟨.hbm, 203, rfl⟩
abbrev main_cst_50 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_cst_51 : Ref sig .tc := ⟨.hbm, 209, rfl⟩
abbrev main_v153 : Ref sig .tc := ⟨.hbm, 210, rfl⟩
abbrev main_cst_52 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_cst_53 : Ref sig .tc := ⟨.hbm, 226, rfl⟩
abbrev main_v168 : Ref sig .tc := ⟨.hbm, 227, rfl⟩
abbrev main_cst_54 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_cst_55 : Ref sig .tc := ⟨.hbm, 233, rfl⟩
abbrev main_v173 : Ref sig .tc := ⟨.hbm, 234, rfl⟩
abbrev main_cst_56 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_cst_57 : Ref sig .tc := ⟨.hbm, 240, rfl⟩
abbrev main_v178 : Ref sig .tc := ⟨.hbm, 241, rfl⟩
abbrev main_cst_58 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_cst_59 : Ref sig .tc := ⟨.hbm, 247, rfl⟩
abbrev main_v183 : Ref sig .tc := ⟨.hbm, 248, rfl⟩
abbrev main_cst_60 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_cst_61 : Ref sig .tc := ⟨.hbm, 254, rfl⟩
abbrev main_v188 : Ref sig .tc := ⟨.hbm, 255, rfl⟩
abbrev main_cst_62 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_cst_63 : Ref sig .tc := ⟨.hbm, 261, rfl⟩
abbrev main_v193 : Ref sig .tc := ⟨.hbm, 262, rfl⟩
abbrev main_cst_64 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_cst_65 : Ref sig .tc := ⟨.hbm, 268, rfl⟩
abbrev main_v198 : Ref sig .tc := ⟨.hbm, 269, rfl⟩
abbrev main_cst_66 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_cst_67 : Ref sig .tc := ⟨.hbm, 275, rfl⟩
abbrev main_v203 : Ref sig .tc := ⟨.hbm, 276, rfl⟩
abbrev main_cst_68 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_cst_69 : Ref sig .tc := ⟨.hbm, 282, rfl⟩
abbrev main_v208 : Ref sig .tc := ⟨.hbm, 283, rfl⟩
abbrev main_cst_70 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_cst_71 : Ref sig .tc := ⟨.hbm, 299, rfl⟩
abbrev main_v223 : Ref sig .tc := ⟨.hbm, 300, rfl⟩
abbrev main_cst_72 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_cst_73 : Ref sig .tc := ⟨.hbm, 306, rfl⟩
abbrev main_v228 : Ref sig .tc := ⟨.hbm, 307, rfl⟩
abbrev main_cst_74 : Ref sig .tc := ⟨.hbm, 308, rfl⟩
abbrev main_v229 : Ref sig .tc := ⟨.hbm, 309, rfl⟩
abbrev main_v230 : Ref sig .tc := ⟨.hbm, 310, rfl⟩
abbrev main_v231 : Ref sig .tc := ⟨.hbm, 311, rfl⟩
abbrev main_v232 : Ref sig .tc := ⟨.hbm, 312, rfl⟩
abbrev main_cst_75 : Ref sig .tc := ⟨.hbm, 313, rfl⟩
abbrev main_v233 : Ref sig .tc := ⟨.hbm, 314, rfl⟩
abbrev main_cst_76 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_cst_77 : Ref sig .tc := ⟨.hbm, 320, rfl⟩
abbrev main_v238 : Ref sig .tc := ⟨.hbm, 321, rfl⟩
abbrev main_cst_78 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_cst_79 : Ref sig .tc := ⟨.hbm, 327, rfl⟩
abbrev main_v243 : Ref sig .tc := ⟨.hbm, 328, rfl⟩
abbrev main_cst_80 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_cst_81 : Ref sig .tc := ⟨.hbm, 334, rfl⟩
abbrev main_v248 : Ref sig .tc := ⟨.hbm, 335, rfl⟩
abbrev main_cst_82 : Ref sig .tc := ⟨.hbm, 336, rfl⟩
abbrev main_v249 : Ref sig .tc := ⟨.hbm, 337, rfl⟩
abbrev main_v250 : Ref sig .tc := ⟨.hbm, 338, rfl⟩
abbrev main_v251 : Ref sig .tc := ⟨.hbm, 339, rfl⟩
abbrev main_v252 : Ref sig .tc := ⟨.hbm, 340, rfl⟩
abbrev main_cst_83 : Ref sig .tc := ⟨.hbm, 341, rfl⟩
abbrev main_v253 : Ref sig .tc := ⟨.hbm, 342, rfl⟩
abbrev main_cst_84 : Ref sig .tc := ⟨.hbm, 343, rfl⟩
abbrev main_v254 : Ref sig .tc := ⟨.hbm, 344, rfl⟩
abbrev main_v255 : Ref sig .tc := ⟨.hbm, 345, rfl⟩
abbrev main_v256 : Ref sig .tc := ⟨.hbm, 346, rfl⟩
abbrev main_v257 : Ref sig .tc := ⟨.hbm, 347, rfl⟩
abbrev main_cst_85 : Ref sig .tc := ⟨.hbm, 348, rfl⟩
abbrev main_v258 : Ref sig .tc := ⟨.hbm, 349, rfl⟩
abbrev main_cst_86 : Ref sig .tc := ⟨.hbm, 350, rfl⟩
abbrev main_v259 : Ref sig .tc := ⟨.hbm, 351, rfl⟩
abbrev main_v260 : Ref sig .tc := ⟨.hbm, 352, rfl⟩
abbrev main_v261 : Ref sig .tc := ⟨.hbm, 353, rfl⟩
abbrev main_v262 : Ref sig .tc := ⟨.hbm, 354, rfl⟩
abbrev main_cst_87 : Ref sig .tc := ⟨.hbm, 355, rfl⟩
abbrev main_v263 : Ref sig .tc := ⟨.hbm, 356, rfl⟩
abbrev main_cst_88 : Ref sig .tc := ⟨.hbm, 357, rfl⟩
abbrev main_v264 : Ref sig .tc := ⟨.hbm, 358, rfl⟩
abbrev main_v265 : Ref sig .tc := ⟨.hbm, 359, rfl⟩
abbrev main_v266 : Ref sig .tc := ⟨.hbm, 360, rfl⟩
abbrev main_v267 : Ref sig .tc := ⟨.hbm, 361, rfl⟩
abbrev main_v268 : Ref sig .tc := ⟨.hbm, 362, rfl⟩
abbrev main_v269 : Ref sig .tc := ⟨.hbm, 363, rfl⟩
abbrev main_v270 : Ref sig .tc := ⟨.hbm, 364, rfl⟩
abbrev main_v271 : Ref sig .tc := ⟨.hbm, 365, rfl⟩
abbrev main_v272 : Ref sig .tc := ⟨.hbm, 366, rfl⟩
abbrev main_v273 : Ref sig .tc := ⟨.hbm, 367, rfl⟩
abbrev main_v274 : Ref sig .tc := ⟨.hbm, 368, rfl⟩
abbrev main_v275 : Ref sig .tc := ⟨.hbm, 369, rfl⟩
abbrev main_v276 : Ref sig .tc := ⟨.hbm, 370, rfl⟩
abbrev main_v277 : Ref sig .tc := ⟨.hbm, 371, rfl⟩
abbrev main_cst_89 : Ref sig .tc := ⟨.hbm, 372, rfl⟩
abbrev main_v278 : Ref sig .tc := ⟨.hbm, 373, rfl⟩
abbrev main_cst_90 : Ref sig .tc := ⟨.hbm, 374, rfl⟩
abbrev main_v279 : Ref sig .tc := ⟨.hbm, 375, rfl⟩
abbrev main_v280 : Ref sig .tc := ⟨.hbm, 376, rfl⟩
abbrev main_v281 : Ref sig .tc := ⟨.hbm, 377, rfl⟩
abbrev main_v282 : Ref sig .tc := ⟨.hbm, 378, rfl⟩
abbrev main_cst_91 : Ref sig .tc := ⟨.hbm, 379, rfl⟩
abbrev main_v283 : Ref sig .tc := ⟨.hbm, 380, rfl⟩
abbrev main_cst_92 : Ref sig .tc := ⟨.hbm, 381, rfl⟩
abbrev main_v284 : Ref sig .tc := ⟨.hbm, 382, rfl⟩
abbrev main_v285 : Ref sig .tc := ⟨.hbm, 383, rfl⟩
abbrev main_v286 : Ref sig .tc := ⟨.hbm, 384, rfl⟩
abbrev main_v287 : Ref sig .tc := ⟨.hbm, 385, rfl⟩
abbrev main_cst_93 : Ref sig .tc := ⟨.hbm, 386, rfl⟩
abbrev main_v288 : Ref sig .tc := ⟨.hbm, 387, rfl⟩
abbrev main_cst_94 : Ref sig .tc := ⟨.hbm, 388, rfl⟩
abbrev main_v289 : Ref sig .tc := ⟨.hbm, 389, rfl⟩
abbrev main_v290 : Ref sig .tc := ⟨.hbm, 390, rfl⟩
abbrev main_v291 : Ref sig .tc := ⟨.hbm, 391, rfl⟩
abbrev main_v292 : Ref sig .tc := ⟨.hbm, 392, rfl⟩
abbrev main_cst_95 : Ref sig .tc := ⟨.hbm, 393, rfl⟩
abbrev main_v293 : Ref sig .tc := ⟨.hbm, 394, rfl⟩
abbrev main_cst_96 : Ref sig .tc := ⟨.hbm, 395, rfl⟩
abbrev main_v294 : Ref sig .tc := ⟨.hbm, 396, rfl⟩
abbrev main_v295 : Ref sig .tc := ⟨.hbm, 397, rfl⟩
abbrev main_v296 : Ref sig .tc := ⟨.hbm, 398, rfl⟩
abbrev main_v297 : Ref sig .tc := ⟨.hbm, 399, rfl⟩
abbrev main_cst_97 : Ref sig .tc := ⟨.hbm, 400, rfl⟩
abbrev main_v298 : Ref sig .tc := ⟨.hbm, 401, rfl⟩
abbrev main_cst_98 : Ref sig .tc := ⟨.hbm, 402, rfl⟩
abbrev main_v299 : Ref sig .tc := ⟨.hbm, 403, rfl⟩
abbrev main_v300 : Ref sig .tc := ⟨.hbm, 404, rfl⟩
abbrev main_v301 : Ref sig .tc := ⟨.hbm, 405, rfl⟩
abbrev main_v302 : Ref sig .tc := ⟨.hbm, 406, rfl⟩
abbrev main_cst_99 : Ref sig .tc := ⟨.hbm, 407, rfl⟩
abbrev main_v303 : Ref sig .tc := ⟨.hbm, 408, rfl⟩
abbrev main_cst_100 : Ref sig .tc := ⟨.hbm, 409, rfl⟩
abbrev main_v304 : Ref sig .tc := ⟨.hbm, 410, rfl⟩
abbrev main_v305 : Ref sig .tc := ⟨.hbm, 411, rfl⟩
abbrev main_v306 : Ref sig .tc := ⟨.hbm, 412, rfl⟩
abbrev main_v307 : Ref sig .tc := ⟨.hbm, 413, rfl⟩
abbrev main_cst_101 : Ref sig .tc := ⟨.hbm, 414, rfl⟩
abbrev main_v308 : Ref sig .tc := ⟨.hbm, 415, rfl⟩
abbrev main_cst_102 : Ref sig .tc := ⟨.hbm, 416, rfl⟩
abbrev main_v309 : Ref sig .tc := ⟨.hbm, 417, rfl⟩
abbrev main_v310 : Ref sig .tc := ⟨.hbm, 418, rfl⟩
abbrev main_v311 : Ref sig .tc := ⟨.hbm, 419, rfl⟩
abbrev main_v312 : Ref sig .tc := ⟨.hbm, 420, rfl⟩
abbrev main_cst_103 : Ref sig .tc := ⟨.hbm, 421, rfl⟩
abbrev main_v313 : Ref sig .tc := ⟨.hbm, 422, rfl⟩
abbrev main_cst_104 : Ref sig .tc := ⟨.hbm, 423, rfl⟩
abbrev main_v314 : Ref sig .tc := ⟨.hbm, 424, rfl⟩
abbrev main_v315 : Ref sig .tc := ⟨.hbm, 425, rfl⟩
abbrev main_v316 : Ref sig .tc := ⟨.hbm, 426, rfl⟩
abbrev main_v317 : Ref sig .tc := ⟨.hbm, 427, rfl⟩
abbrev main_cst_105 : Ref sig .tc := ⟨.hbm, 428, rfl⟩
abbrev main_v318 : Ref sig .tc := ⟨.hbm, 429, rfl⟩
abbrev main_cst_106 : Ref sig .tc := ⟨.hbm, 430, rfl⟩
abbrev main_v319 : Ref sig .tc := ⟨.hbm, 431, rfl⟩
abbrev main_v320 : Ref sig .tc := ⟨.hbm, 432, rfl⟩
abbrev main_v321 : Ref sig .tc := ⟨.hbm, 433, rfl⟩
abbrev main_v322 : Ref sig .tc := ⟨.hbm, 434, rfl⟩
abbrev main_v323 : Ref sig .tc := ⟨.hbm, 435, rfl⟩
abbrev main_v324 : Ref sig .tc := ⟨.hbm, 436, rfl⟩
abbrev main_v325 : Ref sig .tc := ⟨.hbm, 437, rfl⟩
abbrev main_v326 : Ref sig .tc := ⟨.hbm, 438, rfl⟩
abbrev main_v327 : Ref sig .tc := ⟨.hbm, 439, rfl⟩
abbrev main_v328 : Ref sig .tc := ⟨.hbm, 440, rfl⟩
abbrev main_v329 : Ref sig .tc := ⟨.hbm, 441, rfl⟩
abbrev main_v330 : Ref sig .tc := ⟨.hbm, 442, rfl⟩
abbrev main_v331 : Ref sig .tc := ⟨.hbm, 443, rfl⟩
abbrev main_v332 : Ref sig .tc := ⟨.hbm, 444, rfl⟩
abbrev main_cst_107 : Ref sig .tc := ⟨.hbm, 445, rfl⟩
abbrev main_v333 : Ref sig .tc := ⟨.hbm, 446, rfl⟩
abbrev main_cst_108 : Ref sig .tc := ⟨.hbm, 447, rfl⟩
abbrev main_v334 : Ref sig .tc := ⟨.hbm, 448, rfl⟩
abbrev main_v335 : Ref sig .tc := ⟨.hbm, 449, rfl⟩
abbrev main_v336 : Ref sig .tc := ⟨.hbm, 450, rfl⟩
abbrev main_v337 : Ref sig .tc := ⟨.hbm, 451, rfl⟩
abbrev main_cst_109 : Ref sig .tc := ⟨.hbm, 452, rfl⟩
abbrev main_v338 : Ref sig .tc := ⟨.hbm, 453, rfl⟩
abbrev main_cst_110 : Ref sig .tc := ⟨.hbm, 454, rfl⟩
abbrev main_v339 : Ref sig .tc := ⟨.hbm, 455, rfl⟩
abbrev main_v340 : Ref sig .tc := ⟨.hbm, 456, rfl⟩
abbrev main_v341 : Ref sig .tc := ⟨.hbm, 457, rfl⟩
abbrev main_v342 : Ref sig .tc := ⟨.hbm, 458, rfl⟩
abbrev main_cst_111 : Ref sig .tc := ⟨.hbm, 459, rfl⟩
abbrev main_v343 : Ref sig .tc := ⟨.hbm, 460, rfl⟩
abbrev main_cst_112 : Ref sig .tc := ⟨.hbm, 461, rfl⟩
abbrev main_v344 : Ref sig .tc := ⟨.hbm, 462, rfl⟩
abbrev main_v345 : Ref sig .tc := ⟨.hbm, 463, rfl⟩
abbrev main_v346 : Ref sig .tc := ⟨.hbm, 464, rfl⟩
abbrev main_v347 : Ref sig .tc := ⟨.hbm, 465, rfl⟩
abbrev main_cst_113 : Ref sig .tc := ⟨.hbm, 466, rfl⟩
abbrev main_v348 : Ref sig .tc := ⟨.hbm, 467, rfl⟩
abbrev main_cst_114 : Ref sig .tc := ⟨.hbm, 468, rfl⟩
abbrev main_v349 : Ref sig .tc := ⟨.hbm, 469, rfl⟩
abbrev main_v350 : Ref sig .tc := ⟨.hbm, 470, rfl⟩
abbrev main_v351 : Ref sig .tc := ⟨.hbm, 471, rfl⟩
abbrev main_v352 : Ref sig .tc := ⟨.hbm, 472, rfl⟩
abbrev main_cst_115 : Ref sig .tc := ⟨.hbm, 473, rfl⟩
abbrev main_v353 : Ref sig .tc := ⟨.hbm, 474, rfl⟩
abbrev main_cst_116 : Ref sig .tc := ⟨.hbm, 475, rfl⟩
abbrev main_v354 : Ref sig .tc := ⟨.hbm, 476, rfl⟩
abbrev main_v355 : Ref sig .tc := ⟨.hbm, 477, rfl⟩
abbrev main_v356 : Ref sig .tc := ⟨.hbm, 478, rfl⟩
abbrev main_v357 : Ref sig .tc := ⟨.hbm, 479, rfl⟩
abbrev main_cst_117 : Ref sig .tc := ⟨.hbm, 480, rfl⟩
abbrev main_v358 : Ref sig .tc := ⟨.hbm, 481, rfl⟩
abbrev main_cst_118 : Ref sig .tc := ⟨.hbm, 482, rfl⟩
abbrev main_v359 : Ref sig .tc := ⟨.hbm, 483, rfl⟩
abbrev main_v360 : Ref sig .tc := ⟨.hbm, 484, rfl⟩
abbrev main_v361 : Ref sig .tc := ⟨.hbm, 485, rfl⟩
abbrev main_v362 : Ref sig .tc := ⟨.hbm, 486, rfl⟩
abbrev main_cst_119 : Ref sig .tc := ⟨.hbm, 487, rfl⟩
abbrev main_v363 : Ref sig .tc := ⟨.hbm, 488, rfl⟩
abbrev main_cst_120 : Ref sig .tc := ⟨.hbm, 489, rfl⟩
abbrev main_v364 : Ref sig .tc := ⟨.hbm, 490, rfl⟩
abbrev main_v365 : Ref sig .tc := ⟨.hbm, 491, rfl⟩
abbrev main_v366 : Ref sig .tc := ⟨.hbm, 492, rfl⟩
abbrev main_v367 : Ref sig .tc := ⟨.hbm, 493, rfl⟩
abbrev main_cst_121 : Ref sig .tc := ⟨.hbm, 494, rfl⟩
abbrev main_v368 : Ref sig .tc := ⟨.hbm, 495, rfl⟩
abbrev main_cst_122 : Ref sig .tc := ⟨.hbm, 496, rfl⟩
abbrev main_v369 : Ref sig .tc := ⟨.hbm, 497, rfl⟩
abbrev main_v370 : Ref sig .tc := ⟨.hbm, 498, rfl⟩
abbrev main_v371 : Ref sig .tc := ⟨.hbm, 499, rfl⟩
abbrev main_v372 : Ref sig .tc := ⟨.hbm, 500, rfl⟩
abbrev main_cst_123 : Ref sig .tc := ⟨.hbm, 501, rfl⟩
abbrev main_v373 : Ref sig .tc := ⟨.hbm, 502, rfl⟩
abbrev main_cst_124 : Ref sig .tc := ⟨.hbm, 503, rfl⟩
abbrev main_v374 : Ref sig .tc := ⟨.hbm, 504, rfl⟩
abbrev main_v375 : Ref sig .tc := ⟨.hbm, 505, rfl⟩
abbrev main_v376 : Ref sig .tc := ⟨.hbm, 506, rfl⟩
abbrev main_v377 : Ref sig .tc := ⟨.hbm, 507, rfl⟩
abbrev main_v378 : Ref sig .tc := ⟨.hbm, 508, rfl⟩
abbrev main_v379 : Ref sig .tc := ⟨.hbm, 509, rfl⟩
abbrev main_v380 : Ref sig .tc := ⟨.hbm, 510, rfl⟩
abbrev main_v381 : Ref sig .tc := ⟨.hbm, 511, rfl⟩
abbrev main_v382 : Ref sig .tc := ⟨.hbm, 512, rfl⟩
abbrev main_v383 : Ref sig .tc := ⟨.hbm, 513, rfl⟩
abbrev main_v384 : Ref sig .tc := ⟨.hbm, 514, rfl⟩
abbrev main_v385 : Ref sig .tc := ⟨.hbm, 515, rfl⟩
abbrev main_v386 : Ref sig .tc := ⟨.hbm, 516, rfl⟩
abbrev main_v387 : Ref sig .tc := ⟨.hbm, 517, rfl⟩
abbrev main_cst_125 : Ref sig .tc := ⟨.hbm, 518, rfl⟩
abbrev main_v388 : Ref sig .tc := ⟨.hbm, 519, rfl⟩
abbrev main_cst_126 : Ref sig .tc := ⟨.hbm, 520, rfl⟩
abbrev main_v389 : Ref sig .tc := ⟨.hbm, 521, rfl⟩
abbrev main_v390 : Ref sig .tc := ⟨.hbm, 522, rfl⟩
abbrev main_v391 : Ref sig .tc := ⟨.hbm, 523, rfl⟩
abbrev main_v392 : Ref sig .tc := ⟨.hbm, 524, rfl⟩
abbrev main_cst_127 : Ref sig .tc := ⟨.hbm, 525, rfl⟩
abbrev main_v393 : Ref sig .tc := ⟨.hbm, 526, rfl⟩
abbrev main_cst_128 : Ref sig .tc := ⟨.hbm, 527, rfl⟩
abbrev main_v394 : Ref sig .tc := ⟨.hbm, 528, rfl⟩
abbrev main_v395 : Ref sig .tc := ⟨.hbm, 529, rfl⟩
abbrev main_v396 : Ref sig .tc := ⟨.hbm, 530, rfl⟩
abbrev main_v397 : Ref sig .tc := ⟨.hbm, 531, rfl⟩
abbrev main_cst_129 : Ref sig .tc := ⟨.hbm, 532, rfl⟩
abbrev main_v398 : Ref sig .tc := ⟨.hbm, 533, rfl⟩
abbrev main_cst_130 : Ref sig .tc := ⟨.hbm, 534, rfl⟩
abbrev main_v399 : Ref sig .tc := ⟨.hbm, 535, rfl⟩
abbrev main_v400 : Ref sig .tc := ⟨.hbm, 536, rfl⟩
abbrev main_v401 : Ref sig .tc := ⟨.hbm, 537, rfl⟩
abbrev main_v402 : Ref sig .tc := ⟨.hbm, 538, rfl⟩
abbrev main_cst_131 : Ref sig .tc := ⟨.hbm, 539, rfl⟩
abbrev main_v403 : Ref sig .tc := ⟨.hbm, 540, rfl⟩
abbrev main_cst_132 : Ref sig .tc := ⟨.hbm, 541, rfl⟩
abbrev main_v404 : Ref sig .tc := ⟨.hbm, 542, rfl⟩
abbrev main_v405 : Ref sig .tc := ⟨.hbm, 543, rfl⟩
abbrev main_v406 : Ref sig .tc := ⟨.hbm, 544, rfl⟩
abbrev main_v407 : Ref sig .tc := ⟨.hbm, 545, rfl⟩
abbrev main_cst_133 : Ref sig .tc := ⟨.hbm, 546, rfl⟩
abbrev main_v408 : Ref sig .tc := ⟨.hbm, 547, rfl⟩
abbrev main_cst_134 : Ref sig .tc := ⟨.hbm, 548, rfl⟩
abbrev main_v409 : Ref sig .tc := ⟨.hbm, 549, rfl⟩
abbrev main_v410 : Ref sig .tc := ⟨.hbm, 550, rfl⟩
abbrev main_v411 : Ref sig .tc := ⟨.hbm, 551, rfl⟩
abbrev main_v412 : Ref sig .tc := ⟨.hbm, 552, rfl⟩
abbrev main_cst_135 : Ref sig .tc := ⟨.hbm, 553, rfl⟩
abbrev main_v413 : Ref sig .tc := ⟨.hbm, 554, rfl⟩
abbrev main_cst_136 : Ref sig .tc := ⟨.hbm, 555, rfl⟩
abbrev main_v414 : Ref sig .tc := ⟨.hbm, 556, rfl⟩
abbrev main_v415 : Ref sig .tc := ⟨.hbm, 557, rfl⟩
abbrev main_v416 : Ref sig .tc := ⟨.hbm, 558, rfl⟩
abbrev main_v417 : Ref sig .tc := ⟨.hbm, 559, rfl⟩
abbrev main_cst_137 : Ref sig .tc := ⟨.hbm, 560, rfl⟩
abbrev main_v418 : Ref sig .tc := ⟨.hbm, 561, rfl⟩
abbrev main_cst_138 : Ref sig .tc := ⟨.hbm, 562, rfl⟩
abbrev main_v419 : Ref sig .tc := ⟨.hbm, 563, rfl⟩
abbrev main_v420 : Ref sig .tc := ⟨.hbm, 564, rfl⟩
abbrev main_v421 : Ref sig .tc := ⟨.hbm, 565, rfl⟩
abbrev main_v422 : Ref sig .tc := ⟨.hbm, 566, rfl⟩
abbrev main_cst_139 : Ref sig .tc := ⟨.hbm, 567, rfl⟩
abbrev main_v423 : Ref sig .tc := ⟨.hbm, 568, rfl⟩
abbrev main_cst_140 : Ref sig .tc := ⟨.hbm, 569, rfl⟩
abbrev main_v424 : Ref sig .tc := ⟨.hbm, 570, rfl⟩
abbrev main_v425 : Ref sig .tc := ⟨.hbm, 571, rfl⟩
abbrev main_v426 : Ref sig .tc := ⟨.hbm, 572, rfl⟩
abbrev main_v427 : Ref sig .tc := ⟨.hbm, 573, rfl⟩
abbrev main_cst_141 : Ref sig .tc := ⟨.hbm, 574, rfl⟩
abbrev main_v428 : Ref sig .tc := ⟨.hbm, 575, rfl⟩
abbrev main_cst_142 : Ref sig .tc := ⟨.hbm, 576, rfl⟩
abbrev main_v429 : Ref sig .tc := ⟨.hbm, 577, rfl⟩
abbrev main_v430 : Ref sig .tc := ⟨.hbm, 578, rfl⟩
abbrev main_v431 : Ref sig .tc := ⟨.hbm, 579, rfl⟩
abbrev main_v432 : Ref sig .tc := ⟨.hbm, 580, rfl⟩
abbrev main_v433 : Ref sig .tc := ⟨.hbm, 581, rfl⟩
abbrev main_v434 : Ref sig .tc := ⟨.hbm, 582, rfl⟩
abbrev main_v435 : Ref sig .tc := ⟨.hbm, 583, rfl⟩
abbrev main_v436 : Ref sig .tc := ⟨.hbm, 584, rfl⟩
abbrev main_v437 : Ref sig .tc := ⟨.hbm, 585, rfl⟩
abbrev main_v438 : Ref sig .tc := ⟨.hbm, 586, rfl⟩
abbrev main_v439 : Ref sig .tc := ⟨.hbm, 587, rfl⟩
abbrev main_v440 : Ref sig .tc := ⟨.hbm, 588, rfl⟩
abbrev main_v441 : Ref sig .tc := ⟨.hbm, 589, rfl⟩
abbrev main_v442 : Ref sig .tc := ⟨.hbm, 590, rfl⟩
abbrev main_cst_143 : Ref sig .tc := ⟨.hbm, 591, rfl⟩
abbrev main_v443 : Ref sig .tc := ⟨.hbm, 592, rfl⟩
abbrev main_cst_144 : Ref sig .tc := ⟨.hbm, 593, rfl⟩
abbrev main_v444 : Ref sig .tc := ⟨.hbm, 594, rfl⟩
abbrev main_v445 : Ref sig .tc := ⟨.hbm, 595, rfl⟩
abbrev main_v446 : Ref sig .tc := ⟨.hbm, 596, rfl⟩
abbrev main_v447 : Ref sig .tc := ⟨.hbm, 597, rfl⟩
abbrev main_cst_145 : Ref sig .tc := ⟨.hbm, 598, rfl⟩
abbrev main_v448 : Ref sig .tc := ⟨.hbm, 599, rfl⟩
abbrev main_cst_146 : Ref sig .tc := ⟨.hbm, 600, rfl⟩
abbrev main_v449 : Ref sig .tc := ⟨.hbm, 601, rfl⟩
abbrev main_v450 : Ref sig .tc := ⟨.hbm, 602, rfl⟩
abbrev main_v451 : Ref sig .tc := ⟨.hbm, 603, rfl⟩
abbrev main_v452 : Ref sig .tc := ⟨.hbm, 604, rfl⟩
abbrev main_cst_147 : Ref sig .tc := ⟨.hbm, 605, rfl⟩
abbrev main_v453 : Ref sig .tc := ⟨.hbm, 606, rfl⟩
abbrev main_cst_148 : Ref sig .tc := ⟨.hbm, 607, rfl⟩
abbrev main_v454 : Ref sig .tc := ⟨.hbm, 608, rfl⟩
abbrev main_v455 : Ref sig .tc := ⟨.hbm, 609, rfl⟩
abbrev main_v456 : Ref sig .tc := ⟨.hbm, 610, rfl⟩
abbrev main_v457 : Ref sig .tc := ⟨.hbm, 611, rfl⟩
abbrev main_cst_149 : Ref sig .tc := ⟨.hbm, 612, rfl⟩
abbrev main_v458 : Ref sig .tc := ⟨.hbm, 613, rfl⟩
abbrev main_cst_150 : Ref sig .tc := ⟨.hbm, 614, rfl⟩
abbrev main_v459 : Ref sig .tc := ⟨.hbm, 615, rfl⟩
abbrev main_v460 : Ref sig .tc := ⟨.hbm, 616, rfl⟩
abbrev main_v461 : Ref sig .tc := ⟨.hbm, 617, rfl⟩
abbrev main_v462 : Ref sig .tc := ⟨.hbm, 618, rfl⟩
abbrev main_cst_151 : Ref sig .tc := ⟨.hbm, 619, rfl⟩
abbrev main_v463 : Ref sig .tc := ⟨.hbm, 620, rfl⟩
abbrev main_cst_152 : Ref sig .tc := ⟨.hbm, 621, rfl⟩
abbrev main_v464 : Ref sig .tc := ⟨.hbm, 622, rfl⟩
abbrev main_v465 : Ref sig .tc := ⟨.hbm, 623, rfl⟩
abbrev main_v466 : Ref sig .tc := ⟨.hbm, 624, rfl⟩
abbrev main_v467 : Ref sig .tc := ⟨.hbm, 625, rfl⟩
abbrev main_cst_153 : Ref sig .tc := ⟨.hbm, 626, rfl⟩
abbrev main_v468 : Ref sig .tc := ⟨.hbm, 627, rfl⟩
abbrev main_cst_154 : Ref sig .tc := ⟨.hbm, 628, rfl⟩
abbrev main_v469 : Ref sig .tc := ⟨.hbm, 629, rfl⟩
abbrev main_v470 : Ref sig .tc := ⟨.hbm, 630, rfl⟩
abbrev main_v471 : Ref sig .tc := ⟨.hbm, 631, rfl⟩
abbrev main_v472 : Ref sig .tc := ⟨.hbm, 632, rfl⟩
abbrev main_cst_155 : Ref sig .tc := ⟨.hbm, 633, rfl⟩
abbrev main_v473 : Ref sig .tc := ⟨.hbm, 634, rfl⟩
abbrev main_cst_156 : Ref sig .tc := ⟨.hbm, 635, rfl⟩
abbrev main_v474 : Ref sig .tc := ⟨.hbm, 636, rfl⟩
abbrev main_v475 : Ref sig .tc := ⟨.hbm, 637, rfl⟩
abbrev main_v476 : Ref sig .tc := ⟨.hbm, 638, rfl⟩
abbrev main_v477 : Ref sig .tc := ⟨.hbm, 639, rfl⟩
abbrev main_cst_157 : Ref sig .tc := ⟨.hbm, 640, rfl⟩
abbrev main_v478 : Ref sig .tc := ⟨.hbm, 641, rfl⟩
abbrev main_cst_158 : Ref sig .tc := ⟨.hbm, 642, rfl⟩
abbrev main_v479 : Ref sig .tc := ⟨.hbm, 643, rfl⟩
abbrev main_v480 : Ref sig .tc := ⟨.hbm, 644, rfl⟩
abbrev main_v481 : Ref sig .tc := ⟨.hbm, 645, rfl⟩
abbrev main_v482 : Ref sig .tc := ⟨.hbm, 646, rfl⟩
abbrev main_cst_159 : Ref sig .tc := ⟨.hbm, 647, rfl⟩
abbrev main_v483 : Ref sig .tc := ⟨.hbm, 648, rfl⟩
abbrev main_cst_160 : Ref sig .tc := ⟨.hbm, 649, rfl⟩
abbrev main_v484 : Ref sig .tc := ⟨.hbm, 650, rfl⟩
abbrev main_v485 : Ref sig .tc := ⟨.hbm, 651, rfl⟩
abbrev main_v486 : Ref sig .tc := ⟨.hbm, 652, rfl⟩
abbrev main_v487 : Ref sig .tc := ⟨.hbm, 653, rfl⟩
abbrev main_v488 : Ref sig .tc := ⟨.hbm, 654, rfl⟩
abbrev main_v489 : Ref sig .tc := ⟨.hbm, 655, rfl⟩
abbrev main_v490 : Ref sig .tc := ⟨.hbm, 656, rfl⟩
abbrev main_v491 : Ref sig .tc := ⟨.hbm, 657, rfl⟩
abbrev main_v492 : Ref sig .tc := ⟨.hbm, 658, rfl⟩
abbrev main_v493 : Ref sig .tc := ⟨.hbm, 659, rfl⟩
abbrev main_v494 : Ref sig .tc := ⟨.hbm, 660, rfl⟩
abbrev main_v495 : Ref sig .tc := ⟨.hbm, 661, rfl⟩
abbrev main_v496 : Ref sig .tc := ⟨.hbm, 662, rfl⟩

abbrev nD : Nat := 1
abbrev τ : Topo := Topo.v7x

variable {F : FTy → Type} [FloatOps F]
-- ==== Proof.Steps.lean ====
/-
  Running a body that only loads from and stores to four memrefs in vector memory, by values: what the
  body leaves in the two memrefs it writes (`x4`, the output block; `x5`, the scratch) is followed as two
  plain functions, the two memrefs it only reads keep theirs. `Runs Γ p o s a o' s'` says that the
  program `p`, started with `o` in the output block and `s` in the scratch, returns `a` and leaves `o'`
  and `s'`. One lemma per form of statement; nothing here names a shape of the kernel.
-/
module

public import Idealize.ShloMosaic.Lib.VecWindow
public import Idealize.ShloMosaic.Lib.Ring
public import Idealize.ShloMosaic.Lib.Tactic

@[expose] public section

noncomputable section

namespace Cert.Steps

open Idealize.ShloMosaic Idealize.ShloMosaic.TcCoe Idealize.ShloMosaic.Tactic
open Idealize.SL Idealize.SL.RA
open Idealize.SL.BI (sProp)
open scoped Idealize.SL.BI
open Idealize.SL.BI.BIBase Idealize.SL.BI.Laws Idealize.SL.ProofMode Idealize.SL.Sem

variable {nD : Nat} {τ : Topo} {sig : RefSig} {Val : EltTy → Type} {Λ : Labels}

local notation "𝕄" => MT nD τ sig Unit Val ℕ (UR sig nD τ) ℕ

section Owned

variable {defs : Defs nD τ sig Val Λ} (c : Thread nD τ) (E : Set ℕ) {s : Shape} {e : EltTy} {α : Type}
  {Q : α → sProp (MT nD τ sig Unit Val ℕ (UR sig nD τ) ℕ)} {m : Memref sig c.2.kind .vmem s e} {X : s.Idx → Val e} {off size : Fin s.rank → ℕ}
  {inb : ∀ a, off a + size a ≤ s.size a}

/-- A load from a memref owned at contents `X` continues at the window of `X` it reads. -/
theorem wp_load_owned {hl : m.view.LoadsAt (Rect.unit off size inb).toLoadRect}
    {k : ((Rect.unit off size inb).shape.Idx → Val e) → Prog (TpuEff nD τ sig Val Λ c.2) α} :
    (owns c m fullShare X : sProp 𝕄)
      ⊢ iprop((owns c m fullShare X -∗ wp frame (wpE defs Variants.none c none) E (k (VecWindow.window X off size inb)) Q)
        -∗ wp frame (wpE defs Variants.none c none) E (.op (.load m (Rect.unit off size inb).toLoadRect hl) k) Q) := by
  unfold owns
  iintro ⟨%f, %hf, H⟩ K
  iapply (wp_load (defs := defs) Variants.none c none E (Q := Q) (k := k) (m := m)
    (r := (Rect.unit off size inb).toLoadRect) (hl := hl) (S := m.view.set) (q := fullShare) (f := f)
    (View.setOn_subset_set _ _)) $$ H
  iintro H
  rw [View.readAt_unit m.view f inb rfl inb, hf]
  iapply K
  iexists f
  isplitr
  · ipureintro; exact hf
  · iexact H

/-- A store to a memref owned at contents `X` leaves `X` with the stored value put over the window. -/
theorem wp_store_owned {w : (Rect.unit off size inb).shape.Idx → Val e}
    {hx : (m.access (Rect.unit off size inb)).Stores Finset.univ}
    {hm : Finset.univ = Finset.univ ∨ ∀ a, (Rect.unit off size inb).stride a = 1}
    {k : PUnit → Prog (TpuEff nD τ sig Val Λ c.2) α} :
    (owns c m fullShare X : sProp 𝕄)
      ⊢ iprop((owns c m fullShare (VecWindow.put X off size w) -∗ wp frame (wpE defs Variants.none c none) E (k ⟨⟩) Q)
        -∗ wp frame (wpE defs Variants.none c none) E (.op (.store m (Rect.unit off size inb) w Finset.univ hx hm) k) Q) := by
  unfold owns
  iintro ⟨%f, %hf, H⟩ K
  iapply (wp_store_writes₀ (defs := defs) Variants.none c none E (Q := Q) (k := k) (m := m)
    (r := Rect.unit off size inb) (w := w) (hx := hx) (hm := hm) (S := m.view.set) (f := f)
    (View.set_slice_subset _ _)) $$ H
  iintro H
  iapply K
  iexists (m.view.writes Val f [⟨Rect.unit off size inb, w⟩])
  isplitr
  · ipureintro
    rw [View.read_writes_cons_put m.view f inb w [] rfl, View.writes_nil, hf]
  · iexact H

end Owned

/-- What stays put while a body runs: the program's definitions, the core, the four memrefs, and what
    the two memrefs that are only read hold. -/
structure Ctx (nD : Nat) (τ : Topo) (sig : RefSig) (Val : EltTy → Type) (Λ : Labels) (s2 s3 s4 s5 : Shape) where
  /-- the bodies the program may call -/
  defs : Defs nD τ sig Val Λ
  /-- the core that runs the body -/
  c : Dev nD
  /-- the first operand's block -/
  m2 : Memref sig .tc .vmem s2 .f32
  /-- the second operand's block -/
  m3 : Memref sig .tc .vmem s3 .f32
  /-- the output block -/
  m4 : Memref sig .tc .vmem s4 .f32
  /-- the scratch -/
  m5 : Memref sig .tc .vmem s5 .f32
  /-- what the first operand's block holds -/
  x2 : s2.Idx → Val .f32
  /-- what the second operand's block holds -/
  x3 : s3.Idx → Val .f32

variable {s2 s3 s4 s5 : Shape} (Γ : Ctx nD τ sig Val Λ s2 s3 s4 s5)

/-- The four memrefs are owned, the output block at `o` and the scratch at `s`. -/
def Held (o : s4.Idx → Val .f32) (s : s5.Idx → Val .f32) : sProp 𝕄 :=
  iprop(owns (Γ.c : Thread nD τ) Γ.m2 fullShare Γ.x2 ∗ owns (Γ.c : Thread nD τ) Γ.m3 fullShare Γ.x3
    ∗ owns (Γ.c : Thread nD τ) Γ.m4 fullShare o ∗ owns (Γ.c : Thread nD τ) Γ.m5 fullShare s)

/-- Started with `o` in the output block and `s` in the scratch, `p` returns `a` and leaves `o'` and `s'`. -/
structure Runs {α : Type} (p : Prog (TpuEff nD τ sig Val Λ .tc) α) (o : s4.Idx → Val .f32) (s : s5.Idx → Val .f32)
    (a : α) (o' : s4.Idx → Val .f32) (s' : s5.Idx → Val .f32) : Prop where
  /-- whatever is claimed of what `p` leaves holds after running `p` -/
  run : ∀ (E : Set ℕ) (K : α → sProp 𝕄),
    iprop(Held Γ o s ∗ (Held Γ o' s' -∗ K a)) ⊢ wp frame (wpE Γ.defs Variants.none (Γ.c : Thread nD τ) none) E p K

variable {Γ} {α β : Type} {o o₁ o' : s4.Idx → Val .f32} {s s₁ s' : s5.Idx → Val .f32} {a : α} {b : β}

/-- A program that only returns. -/
theorem runs_pure : Runs Γ (pure a) o s a o s := by
  refine ⟨fun E K => ?_⟩
  refine (show _ ⊢ K a from ?_).trans (le_wp_ret _ _ _ a K)
  iintro ⟨H, K⟩
  iapply K
  iexact H

/-- One program after another. -/
theorem runs_bind {p : Prog (TpuEff nD τ sig Val Λ .tc) α} {k : α → Prog (TpuEff nD τ sig Val Λ .tc) β}
    (hp : Runs Γ p o s a o₁ s₁) (hk : Runs Γ (k a) o₁ s₁ b o' s') : Runs Γ (p >>= k) o s b o' s' := by
  refine ⟨fun E K => ?_⟩
  rw [wp_bind]
  refine (show _ ⊢ _ from ?_).trans (hp.run E _)
  iintro ⟨H, K⟩
  isplitl [H]
  · iexact H
  · iintro H
    iapply (hk.run E K)
    isplitl [H]
    · iexact H
    · iexact K

/-- A choice: `o₁` is what either branch leaves in the output block. -/
theorem runs_ite {P : Prop} {_ : Decidable P} {q : ¬ P → Prog (TpuEff nD τ sig Val Λ .tc) α}
    {p : P → Prog (TpuEff nD τ sig Val Λ .tc) α} {op oq : s4.Idx → Val .f32}
    (hp : ∀ h, Runs Γ (p h) o s a op s₁) (hq : ∀ h, Runs Γ (q h) o s a oq s₁) :
    Runs Γ (dite P p q) o s a (if P then op else oq) s₁ := by
  by_cases h : P
  · rw [dif_pos h, if_pos h]; exact hp h
  · rw [dif_neg h, if_neg h]; exact hq h

section Load2
variable {off size : Fin s2.rank → ℕ} {inb : ∀ a, off a + size a ≤ s2.size a}
/-- A load from the first operand's block. -/
theorem runs_load2 {hl : Γ.m2.view.LoadsAt (Rect.unit off size inb).toLoadRect}
    {k : ((Rect.unit off size inb).shape.Idx → Val .f32) → Prog (TpuEff nD τ sig Val Λ .tc) α}
    (h : Runs Γ (k (VecWindow.window Γ.x2 off size inb)) o s a o' s') :
    Runs Γ (Prog.lift (.load Γ.m2 (Rect.unit off size inb).toLoadRect hl) >>= k) o s a o' s' := by
  refine ⟨fun E K => ?_⟩
  show _ ⊢ wp _ _ E (.op (.load Γ.m2 (Rect.unit off size inb).toLoadRect hl) k) K
  unfold Held
  iintro ⟨⟨H2, H3, H4, H5⟩, K⟩
  iapply (wp_load_owned (defs := Γ.defs) (Γ.c : Thread nD τ) E (Q := K) (m := Γ.m2) (X := Γ.x2) (inb := inb) (hl := hl) (k := k)) $$ H2
  iintro H2
  iapply (h.run E K)
  unfold Held
  isplitl [H2 H3 H4 H5]
  · isplitl [H2]; · iexact H2
    isplitl [H3]; · iexact H3
    isplitl [H4]; · iexact H4
    iexact H5
  · iexact K

/-- The same load, at the end of a program. -/
theorem runs_load2_last {hl : Γ.m2.view.LoadsAt (Rect.unit off size inb).toLoadRect} :
    Runs Γ (Prog.lift (.load Γ.m2 (Rect.unit off size inb).toLoadRect hl)) o s (VecWindow.window Γ.x2 off size inb) o s :=
  runs_load2 (k := pure) runs_pure
end Load2

section Load3
variable {off size : Fin s3.rank → ℕ} {inb : ∀ a, off a + size a ≤ s3.size a}
/-- A load from the second operand's block. -/
theorem runs_load3 {hl : Γ.m3.view.LoadsAt (Rect.unit off size inb).toLoadRect}
    {k : ((Rect.unit off size inb).shape.Idx → Val .f32) → Prog (TpuEff nD τ sig Val Λ .tc) α}
    (h : Runs Γ (k (VecWindow.window Γ.x3 off size inb)) o s a o' s') :
    Runs Γ (Prog.lift (.load Γ.m3 (Rect.unit off size inb).toLoadRect hl) >>= k) o s a o' s' := by
  refine ⟨fun E K => ?_⟩
  show _ ⊢ wp _ _ E (.op (.load Γ.m3 (Rect.unit off size inb).toLoadRect hl) k) K
  unfold Held
  iintro ⟨⟨H2, H3, H4, H5⟩, K⟩
  iapply (wp_load_owned (defs := Γ.defs) (Γ.c : Thread nD τ) E (Q := K) (m := Γ.m3) (X := Γ.x3) (inb := inb) (hl := hl) (k := k)) $$ H3
  iintro H3
  iapply (h.run E K)
  unfold Held
  isplitl [H2 H3 H4 H5]
  · isplitl [H2]; · iexact H2
    isplitl [H3]; · iexact H3
    isplitl [H4]; · iexact H4
    iexact H5
  · iexact K

/-- The same load, at the end of a program. -/
theorem runs_load3_last {hl : Γ.m3.view.LoadsAt (Rect.unit off size inb).toLoadRect} :
    Runs Γ (Prog.lift (.load Γ.m3 (Rect.unit off size inb).toLoadRect hl)) o s (VecWindow.window Γ.x3 off size inb) o s :=
  runs_load3 (k := pure) runs_pure
end Load3

section Out
variable {off size : Fin s4.rank → ℕ} {inb : ∀ a, off a + size a ≤ s4.size a}
/-- A load from the output block. -/
theorem runs_load4 {hl : Γ.m4.view.LoadsAt (Rect.unit off size inb).toLoadRect}
    {k : ((Rect.unit off size inb).shape.Idx → Val .f32) → Prog (TpuEff nD τ sig Val Λ .tc) α}
    (h : Runs Γ (k (VecWindow.window o off size inb)) o s a o' s') :
    Runs Γ (Prog.lift (.load Γ.m4 (Rect.unit off size inb).toLoadRect hl) >>= k) o s a o' s' := by
  refine ⟨fun E K => ?_⟩
  show _ ⊢ wp _ _ E (.op (.load Γ.m4 (Rect.unit off size inb).toLoadRect hl) k) K
  unfold Held
  iintro ⟨⟨H2, H3, H4, H5⟩, K⟩
  iapply (wp_load_owned (defs := Γ.defs) (Γ.c : Thread nD τ) E (Q := K) (m := Γ.m4) (X := o) (inb := inb) (hl := hl) (k := k)) $$ H4
  iintro H4
  iapply (h.run E K)
  unfold Held
  isplitl [H2 H3 H4 H5]
  · isplitl [H2]; · iexact H2
    isplitl [H3]; · iexact H3
    isplitl [H4]; · iexact H4
    iexact H5
  · iexact K

/-- A store to the output block; `o₁` is what it leaves there. -/
theorem runs_store4 {w : (Rect.unit off size inb).shape.Idx → Val .f32}
    {hx : (Γ.m4.access (Rect.unit off size inb)).Stores Finset.univ}
    {hm : Finset.univ = Finset.univ ∨ ∀ a, (Rect.unit off size inb).stride a = 1}
    {k : PUnit → Prog (TpuEff nD τ sig Val Λ .tc) α}
    (e : VecWindow.put o off size w = o₁) (h : Runs Γ (k ⟨⟩) o₁ s a o' s') :
    Runs Γ (Prog.lift (.store Γ.m4 (Rect.unit off size inb) w Finset.univ hx hm) >>= k) o s a o' s' := by
  subst e
  refine ⟨fun E K => ?_⟩
  show _ ⊢ wp _ _ E (.op (.store Γ.m4 (Rect.unit off size inb) w Finset.univ hx hm) k) K
  unfold Held
  iintro ⟨⟨H2, H3, H4, H5⟩, K⟩
  iapply (wp_store_owned (defs := Γ.defs) (Γ.c : Thread nD τ) E (Q := K) (m := Γ.m4) (X := o) (inb := inb) (w := w) (hx := hx) (hm := hm) (k := k)) $$ H4
  iintro H4
  iapply (h.run E K)
  unfold Held
  isplitl [H2 H3 H4 H5]
  · isplitl [H2]; · iexact H2
    isplitl [H3]; · iexact H3
    isplitl [H4]; · iexact H4
    iexact H5
  · iexact K

/-- The same load, at the end of a program. -/
theorem runs_load4_last {hl : Γ.m4.view.LoadsAt (Rect.unit off size inb).toLoadRect} :
    Runs Γ (Prog.lift (.load Γ.m4 (Rect.unit off size inb).toLoadRect hl)) o s (VecWindow.window o off size inb) o s :=
  runs_load4 (k := pure) runs_pure
end Out

section Scratch
variable {off size : Fin s5.rank → ℕ} {inb : ∀ a, off a + size a ≤ s5.size a}
/-- A load from the scratch. -/
theorem runs_load5 {hl : Γ.m5.view.LoadsAt (Rect.unit off size inb).toLoadRect}
    {k : ((Rect.unit off size inb).shape.Idx → Val .f32) → Prog (TpuEff nD τ sig Val Λ .tc) α}
    (h : Runs Γ (k (VecWindow.window s off size inb)) o s a o' s') :
    Runs Γ (Prog.lift (.load Γ.m5 (Rect.unit off size inb).toLoadRect hl) >>= k) o s a o' s' := by
  refine ⟨fun E K => ?_⟩
  show _ ⊢ wp _ _ E (.op (.load Γ.m5 (Rect.unit off size inb).toLoadRect hl) k) K
  unfold Held
  iintro ⟨⟨H2, H3, H4, H5⟩, K⟩
  iapply (wp_load_owned (defs := Γ.defs) (Γ.c : Thread nD τ) E (Q := K) (m := Γ.m5) (X := s) (inb := inb) (hl := hl) (k := k)) $$ H5
  iintro H5
  iapply (h.run E K)
  unfold Held
  isplitl [H2 H3 H4 H5]
  · isplitl [H2]; · iexact H2
    isplitl [H3]; · iexact H3
    isplitl [H4]; · iexact H4
    iexact H5
  · iexact K

/-- A store to the scratch; `s₁` is what it leaves there. -/
theorem runs_store5 {w : (Rect.unit off size inb).shape.Idx → Val .f32}
    {hx : (Γ.m5.access (Rect.unit off size inb)).Stores Finset.univ}
    {hm : Finset.univ = Finset.univ ∨ ∀ a, (Rect.unit off size inb).stride a = 1}
    {k : PUnit → Prog (TpuEff nD τ sig Val Λ .tc) α}
    (e : VecWindow.put s off size w = s₁) (h : Runs Γ (k ⟨⟩) o s₁ a o' s') :
    Runs Γ (Prog.lift (.store Γ.m5 (Rect.unit off size inb) w Finset.univ hx hm) >>= k) o s a o' s' := by
  subst e
  refine ⟨fun E K => ?_⟩
  show _ ⊢ wp _ _ E (.op (.store Γ.m5 (Rect.unit off size inb) w Finset.univ hx hm) k) K
  unfold Held
  iintro ⟨⟨H2, H3, H4, H5⟩, K⟩
  iapply (wp_store_owned (defs := Γ.defs) (Γ.c : Thread nD τ) E (Q := K) (m := Γ.m5) (X := s) (inb := inb) (w := w) (hx := hx) (hm := hm) (k := k)) $$ H5
  iintro H5
  iapply (h.run E K)
  unfold Held
  isplitl [H2 H3 H4 H5]
  · isplitl [H2]; · iexact H2
    isplitl [H3]; · iexact H3
    isplitl [H4]; · iexact H4
    iexact H5
  · iexact K

/-- The same load, at the end of a program. -/
theorem runs_load5_last {hl : Γ.m5.view.LoadsAt (Rect.unit off size inb).toLoadRect} :
    Runs Γ (Prog.lift (.load Γ.m5 (Rect.unit off size inb).toLoadRect hl)) o s (VecWindow.window s off size inb) o s :=
  runs_load5 (k := pure) runs_pure
end Scratch

end Cert.Steps
-- ==== Proof.Model.lean ====
/-
  What the kernel's body computes, written once as plain functions of the blocks it is handed: the scratch
  after the first `d` of its nine copies, a tile's two running sums over sixteen channels each, the tile
  that is added into the output block, and the output block after the first `n` of its 162 tiles. And the
  two statement rules that step those functions by one copy and by one tile.
-/
module

public import proofs.«01_k».proof.Proof.Steps

@[expose] public section

noncomputable section

namespace Cert.Model

open Idealize.ShloMosaic Idealize.SL.Sem
open Cert.Steps

variable {F : FTy → Type} [FloatOps F]

/-- a block of the reference features: one batch, 32 channels -/
abbrev SX : Shape := ⟨4, ![1, 32, 128, 256]⟩
/-- a block of the padded query features -/
abbrev SQ : Shape := ⟨4, ![1, 32, 136, 264]⟩
/-- the output block: 81 displacements -/
abbrev SO : Shape := ⟨4, ![1, 81, 128, 256]⟩
/-- the scratch: two slots -/
abbrev SS : Shape := ⟨4, ![2, 32, 136, 256]⟩
/-- a tile, as it lies in a block -/
abbrev T4 : Shape := ⟨4, ![1, 1, 128, 128]⟩
/-- a tile as a matrix -/
abbrev T2 : Shape := ⟨2, ![128, 128]⟩
/-- a copied slab -/
abbrev C3 : Shape := ⟨3, ![32, 136, 256]⟩
/-- a copied slab, as it lies in a block -/
abbrev C4 : Shape := ⟨4, ![1, 32, 136, 256]⟩

/-- The channel of step `k` of running sum `h`. -/
abbrev chan (h k : ℕ) : ℕ := 16 * (h % 2) + k % 16

/-- Where tile `n` lies in the output block: displacement `dy * 9 + dx`, half `xt` of the columns. -/
abbrev toff (n : ℕ) : Fin 4 → ℕ := ![0, n / 2 % 9 * 9 + n / 18 % 9, 0, 128 * (n % 2)]
/-- Where the tile's part of a channel lies in the reference block. -/
abbrev xoff (n c : ℕ) : Fin 4 → ℕ := ![0, c, 0, 128 * (n % 2)]
/-- Where the tile's part of a channel lies in the scratch. -/
abbrev soff (n c : ℕ) : Fin 4 → ℕ := ![n / 18 % 2, c, n / 2 % 9, 128 * (n % 2)]

theorem toff_inb (n : ℕ) : ∀ a, toff n a + T4.size a ≤ SO.size a := by
  intro a; fin_cases a <;> simp [toff] <;> omega
theorem xoff_inb (n h k : ℕ) : ∀ a, xoff n (chan h k) a + T4.size a ≤ SX.size a := by
  intro a; fin_cases a <;> simp [xoff, chan] <;> omega
theorem soff_inb (n h k : ℕ) : ∀ a, soff n (chan h k) a + T4.size a ≤ SS.size a := by
  intro a; fin_cases a <;> simp [soff, chan] <;> omega
theorem qoff_inb (d : ℕ) : ∀ a, (![0, 0, 0, d % 9] : Fin 4 → ℕ) a + C4.size a ≤ SQ.size a := by
  intro a; fin_cases a <;> simp <;> omega

theorem T4_T2 : T4.ShapeCasts T2 := by decide
theorem T2_T4 : T2.ShapeCasts T4 := by decide
theorem C4_C3 : C4.ShapeCasts C3 := by decide
theorem C3_C4 : C3.ShapeCasts C4 := by decide
theorem SO_SO : SO.ShapeCasts SO := by decide

/-- The scratch after `d` copies: copy `d` puts the query block's columns `d … d + 255` into slot `d % 2`. -/
def scratch (q : Vec F SQ .f32) (s : Vec F SS .f32) : ℕ → Vec F SS .f32
  | 0 => s
  | d + 1 => VecWindow.put (scratch q s d) ![d % 2, 0, 0, 0] C4.size
      (shapeCast C4 (shapeCast C3 (VecWindow.window q ![0, 0, 0, d % 9] C4.size (qoff_inb d)) C4_C3) C3_C4)

/-- One channel's product in tile `n`. -/
def prod (x : Vec F SX .f32) (s : Vec F SS .f32) (n h k : ℕ) : FVec F T2 .f32 :=
  mulf (shapeCast T2 (VecWindow.window x (xoff n (chan h k)) T4.size (xoff_inb n h k)) T4_T2)
    (shapeCast T2 (VecWindow.window s (soff n (chan h k)) T4.size (soff_inb n h k)) T4_T2)

/-- Running sum `h` of tile `n` after the channels `0 … k` of its sixteen. -/
def acc (x : Vec F SX .f32) (s : Vec F SS .f32) (n h : ℕ) : ℕ → FVec F T2 .f32
  | 0 => prod x s n h 0
  | k + 1 => addf (acc x s n h k) (prod x s n h (k + 1))

/-- What tile `n` stores: what lies there plus the two running sums. -/
def tile (x : Vec F SX .f32) (s : Vec F SS .f32) (o : Vec F SO .f32) (n : ℕ) : Vec F T4 .f32 :=
  shapeCast T4 (addf (shapeCast T2 (VecWindow.window o (toff n) T4.size (toff_inb n)) T4_T2)
    (addf (acc x s n 0 15) (acc x s n 1 15))) T2_T4

/-- The output block after `n` tiles. -/
def outAfter (x : Vec F SX .f32) (q : Vec F SQ .f32) (s : Vec F SS .f32) (o : Vec F SO .f32) : ℕ → Vec F SO .f32
  | 0 => o
  | n + 1 => VecWindow.put (outAfter x q s o n) (toff n) T4.size
      (tile x (scratch q s (n / 18 + 1)) (outAfter x q s o n) n)

/-- A block of zeros. -/
def zeros : Vec F SO .f32 := broadcast SO (Scalar.ofBits .f32 0x00000000#32)

/-- A block times 1/128. -/
def scaled (o : Vec F SO .f32) : Vec F SO .f32 :=
  mulf o (broadcast SO (Scalar.ofBits .f32 0x3C000000#32))

section Rules

variable {nD : Nat} {τ : Topo} {sig : RefSig} {Λ : Labels} {Γ : Ctx nD τ sig (Elt F) Λ SX SQ SO SS}
  {α : Type} {o o' : Vec F SO .f32} {s s' s₀ : Vec F SS .f32} {a : α}

/-- One of the nine copies. -/
theorem runs_copy {d : ℕ} {off : Fin 4 → ℕ} {inb : ∀ a, off a + C4.size a ≤ SS.size a}
    {w : (Rect.unit (s := SS) off C4.size inb).shape.Idx → Elt F .f32}
    {hx : (Γ.m5.access (Rect.unit off C4.size inb)).Stores Finset.univ}
    {hm : Finset.univ = Finset.univ ∨ ∀ a, (Rect.unit (s := SS) off C4.size inb).stride a = 1}
    {k : PUnit → Prog (TpuEff nD τ sig (Elt F) Λ .tc) α}
    (e : VecWindow.put (scratch Γ.x3 s₀ d) off C4.size w = scratch Γ.x3 s₀ (d + 1))
    (h : Runs Γ (k ⟨⟩) o (scratch Γ.x3 s₀ (d + 1)) a o' s') :
    Runs Γ (Prog.lift (.store Γ.m5 (Rect.unit (s := SS) off C4.size inb) w Finset.univ hx hm) >>= k)
      o (scratch Γ.x3 s₀ d) a o' s' := runs_store5 e h

/-- One of the 162 tiles. -/
theorem runs_tile {n d : ℕ} {off : Fin 4 → ℕ} {inb : ∀ a, off a + T4.size a ≤ SO.size a}
    {w : (Rect.unit (s := SO) off T4.size inb).shape.Idx → Elt F .f32}
    {hx : (Γ.m4.access (Rect.unit off T4.size inb)).Stores Finset.univ}
    {hm : Finset.univ = Finset.univ ∨ ∀ a, (Rect.unit (s := SO) off T4.size inb).stride a = 1}
    {k : PUnit → Prog (TpuEff nD τ sig (Elt F) Λ .tc) α}
    (hd : n / 18 + 1 = d) (ho : off = toff n)
    (hw : w = tile Γ.x2 (scratch Γ.x3 s₀ d) (outAfter Γ.x2 Γ.x3 s₀ o n) n)
    (h : Runs Γ (k ⟨⟩) (outAfter Γ.x2 Γ.x3 s₀ o (n + 1)) (scratch Γ.x3 s₀ d) a o' s') :
    Runs Γ (Prog.lift (.store Γ.m4 (Rect.unit (s := SO) off T4.size inb) w Finset.univ hx hm) >>= k)
      (outAfter Γ.x2 Γ.x3 s₀ o n) (scratch Γ.x3 s₀ d) a o' s' :=
  runs_store4 (by subst hd ho hw; rfl) h

/-- A copy, at the end of a program. -/
theorem runs_copy_last {d : ℕ} {off : Fin 4 → ℕ} {inb : ∀ a, off a + C4.size a ≤ SS.size a}
    {w : (Rect.unit (s := SS) off C4.size inb).shape.Idx → Elt F .f32}
    {hx : (Γ.m5.access (Rect.unit off C4.size inb)).Stores Finset.univ}
    {hm : Finset.univ = Finset.univ ∨ ∀ a, (Rect.unit (s := SS) off C4.size inb).stride a = 1}
    (e : VecWindow.put (scratch Γ.x3 s₀ d) off C4.size w = scratch Γ.x3 s₀ (d + 1)) :
    Runs Γ (Prog.lift (.store Γ.m5 (Rect.unit (s := SS) off C4.size inb) w Finset.univ hx hm))
      o (scratch Γ.x3 s₀ d) ⟨⟩ o (scratch Γ.x3 s₀ (d + 1)) := runs_copy (k := pure) e runs_pure

/-- A tile, at the end of a program. -/
theorem runs_tile_last {n d : ℕ} {off : Fin 4 → ℕ} {inb : ∀ a, off a + T4.size a ≤ SO.size a}
    {w : (Rect.unit (s := SO) off T4.size inb).shape.Idx → Elt F .f32}
    {hx : (Γ.m4.access (Rect.unit off T4.size inb)).Stores Finset.univ}
    {hm : Finset.univ = Finset.univ ∨ ∀ a, (Rect.unit (s := SO) off T4.size inb).stride a = 1}
    (hd : n / 18 + 1 = d) (ho : off = toff n)
    (hw : w = tile Γ.x2 (scratch Γ.x3 s₀ d) (outAfter Γ.x2 Γ.x3 s₀ o n) n) :
    Runs Γ (Prog.lift (.store Γ.m4 (Rect.unit (s := SO) off T4.size inb) w Finset.univ hx hm))
      (outAfter Γ.x2 Γ.x3 s₀ o n) (scratch Γ.x3 s₀ d) ⟨⟩ (outAfter Γ.x2 Γ.x3 s₀ o (n + 1)) (scratch Γ.x3 s₀ d) :=
  runs_tile (k := pure) hd ho hw runs_pure

/-- A store of a whole output block leaves what it stores. -/
theorem put_whole (o w : Vec F SO .f32) : VecWindow.put (s := SO) o ![0, 0, 0, 0] SO.size w = w := by
  funext y
  have h : ∀ a, (![0, 0, 0, 0] : Fin 4 → ℕ) a ≤ (y a).val ∧ (y a).val < (![0, 0, 0, 0] : Fin 4 → ℕ) a + SO.size a := by
    intro a
    have := (y a).isLt
    fin_cases a <;> simpa using this
  have h0 : (y 0).val = 0 := Nat.lt_one_iff.mp (y 0).isLt
  rw [VecWindow.put, dif_pos h]
  congr 1
  funext a
  apply Fin.ext
  fin_cases a <;> simp [Rect.unitLocal, h0]

/-- A load of a whole output block reads it. -/
theorem window_whole (o : Vec F SO .f32) (inb : ∀ a, (![0, 0, 0, 0] : Fin 4 → ℕ) a + SO.size a ≤ SO.size a) :
    VecWindow.window (s := SO) o ![0, 0, 0, 0] SO.size inb = o := by
  funext y
  refine congrArg o (funext fun a => Fin.ext ?_)
  fin_cases a <;> simp [Rect.emb, Rect.unit]

/-- The last store leaves 1/128 of what it read. -/
theorem put_scaled (o : Vec F SO .f32) (inb : ∀ a, (![0, 0, 0, 0] : Fin 4 → ℕ) a + SO.size a ≤ SO.size a) (h : SO.ShapeCasts SO) :
    VecWindow.put (s := SO) o ![0, 0, 0, 0] SO.size
      (mulf (shapeCast SO (VecWindow.window (s := SO) o ![0, 0, 0, 0] SO.size inb : Vec F SO .f32) h)
        (broadcast SO (Scalar.ofBits .f32 0x3C000000#32))) = scaled o := by
  rw [put_whole, window_whole]
  unfold scaled
  congr 1
  funext y
  exact congrArg o (by simp)

/-- What the tiles begin with: zeros at the first channel block, what lies there at the others. -/
def begin (P : Prop) (_ : Decidable P) (o : Vec F SO .f32) : Vec F SO .f32 := if P then zeros else o

/-- What the body ends with: 1/128 of the sums at the last channel block, the sums at the others. -/
def finish (P : Prop) (_ : Decidable P) (o : Vec F SO .f32) : Vec F SO .f32 := if P then scaled o else o

/-- The body's first statement, a choice, after which the tiles begin. -/
theorem runs_begin {P : Prop} {dec : Decidable P}
    {inb inb' : ∀ a, (![0, 0, 0, 0] : Fin 4 → ℕ) a + SO.size a ≤ SO.size a}
    {hl : Γ.m4.view.LoadsAt (Rect.unit (s := SO) ![0, 0, 0, 0] SO.size inb).toLoadRect}
    {hx : (Γ.m4.access (Rect.unit (s := SO) ![0, 0, 0, 0] SO.size inb')).Stores Finset.univ}
    {hm : Finset.univ = Finset.univ ∨ ∀ a, (Rect.unit (s := SO) ![0, 0, 0, 0] SO.size inb').stride a = 1}
    {rest : Prog (TpuEff nD τ sig (Elt F) Λ .tc) α}
    (h : Runs Γ rest (outAfter Γ.x2 Γ.x3 s (begin P dec o) 0) (scratch Γ.x3 s 0) a o' s') :
    Runs Γ (dite P
      (fun _ => Prog.lift (.load Γ.m4 (Rect.unit (s := SO) ![0, 0, 0, 0] SO.size inb).toLoadRect hl) >>= fun _ =>
        Prog.lift (.store Γ.m4 (Rect.unit (s := SO) ![0, 0, 0, 0] SO.size inb')
          (broadcast SO (Scalar.ofBits .f32 0x00000000#32 : F .f32)) Finset.univ hx hm) >>= fun _ => rest)
      fun _ => rest) o s a o' s' := by
  have h' : Runs Γ rest (begin P dec o) s a o' s' := h
  unfold begin at h'
  by_cases hP : P
  · rw [dif_pos hP]
    rw [if_pos hP] at h'
    exact runs_load4 (runs_store4 (put_whole _ _) h')
  · rw [dif_neg hP]; rw [if_neg hP] at h'; exact h'

/-- The body's last choice. -/
theorem runs_end {P : Prop} {dec : Decidable P}
    {inb inb' : ∀ a, (![0, 0, 0, 0] : Fin 4 → ℕ) a + SO.size a ≤ SO.size a}
    {hl : Γ.m4.view.LoadsAt (Rect.unit (s := SO) ![0, 0, 0, 0] SO.size inb).toLoadRect}
    {hl' : Γ.m4.view.LoadsAt (Rect.unit (s := SO) ![0, 0, 0, 0] SO.size inb').toLoadRect}
    {hx : (Γ.m4.access (Rect.unit (s := SO) ![0, 0, 0, 0] SO.size inb')).Stores Finset.univ}
    {hm : Finset.univ = Finset.univ ∨ ∀ a, (Rect.unit (s := SO) ![0, 0, 0, 0] SO.size inb').stride a = 1}
    {hc : SO.ShapeCasts SO} {rest : Prog (TpuEff nD τ sig (Elt F) Λ .tc) α} {n : ℕ}
    (h : Runs Γ rest (finish P dec (outAfter Γ.x2 Γ.x3 s₀ o n)) s a o' s') :
    Runs Γ (dite P
      (fun _ => Prog.lift (.load Γ.m4 (Rect.unit (s := SO) ![0, 0, 0, 0] SO.size inb).toLoadRect hl) >>= fun v =>
        Prog.lift (.load Γ.m4 (Rect.unit (s := SO) ![0, 0, 0, 0] SO.size inb').toLoadRect hl') >>= fun _ =>
        Prog.lift (.store Γ.m4 (Rect.unit (s := SO) ![0, 0, 0, 0] SO.size inb')
          (mulf (shapeCast SO (v : Vec F SO .f32) hc : FVec F SO .f32) (broadcast SO (Scalar.ofBits .f32 0x3C000000#32 : F .f32)))
          Finset.univ hx hm) >>= fun _ => rest)
      fun _ => rest) (outAfter Γ.x2 Γ.x3 s₀ o n) s a o' s' := by
  unfold finish at h
  by_cases hP : P
  · rw [dif_pos hP]
    rw [if_pos hP] at h
    exact runs_load4 (runs_load4 (runs_store4 (put_scaled _ _ _) h))
  · rw [dif_neg hP]; rw [if_neg hP] at h; exact h

end Rules

end Cert.Model
-- ==== Proof.Tiles.lean ====
/-
  What the tiles read of the scratch. A tile reads only the slot that the last copy has filled, so it reads the query
  block itself, shifted: what the body leaves does not depend on what the scratch held. Over the extended reals the
  162 tiles then add to every element of the output block one sum of products over the block's 32 channels.
-/
module

public import proofs.«01_k».proof.Proof.Model
public import Idealize.ShloMosaic.Lib.Pipeline.Value
public import Idealize.ShloMosaic.Lib.Pointwise

@[expose] public section

noncomputable section

namespace Cert.Model

open Idealize.ShloMosaic Idealize.SL.Sem

section Any

variable {F : FTy → Type} [FloatOps F]

theorem begin_of {P : Prop} {dec : Decidable P} {o : Vec F SO .f32} (h : P) : begin P dec o = zeros := if_pos h
theorem begin_not {P : Prop} {dec : Decidable P} {o : Vec F SO .f32} (h : ¬P) : begin P dec o = o := if_neg h
theorem finish_of {P : Prop} {dec : Decidable P} {o : Vec F SO .f32} (h : P) : finish P dec o = scaled o := if_pos h
theorem finish_not {P : Prop} {dec : Decidable P} {o : Vec F SO .f32} (h : ¬P) : finish P dec o = o := if_neg h

theorem chan_lt (h k : ℕ) : chan h k < 32 := by simp only [chan]; omega

/-- Where tile `n`'s part of a channel lies in the query block: rows and columns shifted by the displacement. -/
abbrev qwin (n c : ℕ) : Fin 4 → ℕ := ![0, c, n / 2 % 9, n / 18 % 9 + 128 * (n % 2)]

theorem qwin_inb (n h k : ℕ) : ∀ a, qwin n (chan h k) a + T4.size a ≤ SQ.size a := by
  intro a; fin_cases a <;> simp [qwin, chan] <;> omega

/-- The last copy, with the two reshapes that undo each other left out. -/
theorem scratch_succ (q : Vec F SQ .f32) (s : Vec F SS .f32) (d : ℕ) :
    scratch q s (d + 1) = VecWindow.put (scratch q s d) ![d % 2, 0, 0, 0] C4.size
      (VecWindow.window q ![0, 0, 0, d % 9] C4.size (qoff_inb d)) :=
  congrArg (VecWindow.put (s := SS) (scratch q s d) ![d % 2, 0, 0, 0] C4.size)
    (shapeCast_shapeCast (VecWindow.window q ![0, 0, 0, d % 9] C4.size (qoff_inb d)) C4_C3 C3_C4)

/-- What a tile reads of the scratch is a window of the query block. -/
theorem scratch_window (q : Vec F SQ .f32) (s : Vec F SS .f32) (n h k : ℕ) :
    VecWindow.window (scratch q s (n / 18 + 1)) (soff n (chan h k)) T4.size (soff_inb n h k)
      = VecWindow.window q (qwin n (chan h k)) T4.size (qwin_inb n h k) := by
  rw [scratch_succ, VecWindow.window_put_of_inside]
  · funext y
    refine congrArg q (funext fun a => Fin.ext ?_)
    show (![0, 0, 0, n / 18 % 9] : Fin 4 → ℕ) a
        + 1 * ((soff n (chan h k) a - (![n / 18 % 2, 0, 0, 0] : Fin 4 → ℕ) a) + 1 * (y a).val)
      = qwin n (chan h k) a + 1 * (y a).val
    match a with
    | ⟨0, _⟩ => show 0 + 1 * ((n / 18 % 2 - n / 18 % 2) + 1 * _) = 0 + 1 * _; omega
    | ⟨1, _⟩ => show 0 + 1 * ((chan h k - 0) + 1 * _) = chan h k + 1 * _; omega
    | ⟨2, _⟩ => show 0 + 1 * ((n / 2 % 9 - 0) + 1 * _) = n / 2 % 9 + 1 * _; omega
    | ⟨3, _⟩ => show n / 18 % 9 + 1 * ((128 * (n % 2) - 0) + 1 * _) = n / 18 % 9 + 128 * (n % 2) + 1 * _; omega
  · have hc := chan_lt h k
    intro a
    match a with
    | ⟨0, _⟩ => show n / 18 % 2 ≤ n / 18 % 2 ∧ n / 18 % 2 + 1 ≤ n / 18 % 2 + 1; omega
    | ⟨1, _⟩ => show 0 ≤ chan h k ∧ chan h k + 1 ≤ 0 + 32; omega
    | ⟨2, _⟩ => show 0 ≤ n / 2 % 9 ∧ n / 2 % 9 + 128 ≤ 0 + 136; omega
    | ⟨3, _⟩ => show 0 ≤ 128 * (n % 2) ∧ 128 * (n % 2) + 128 ≤ 0 + 256; omega

/-- One channel's product in tile `n`, read off the query block. -/
def prodq (x : Vec F SX .f32) (q : Vec F SQ .f32) (n h k : ℕ) : FVec F T2 .f32 :=
  mulf (shapeCast T2 (VecWindow.window x (xoff n (chan h k)) T4.size (xoff_inb n h k)) T4_T2)
    (shapeCast T2 (VecWindow.window q (qwin n (chan h k)) T4.size (qwin_inb n h k)) T4_T2)

/-- The running sum of those products. -/
def accq (x : Vec F SX .f32) (q : Vec F SQ .f32) (n h : ℕ) : ℕ → FVec F T2 .f32
  | 0 => prodq x q n h 0
  | k + 1 => addf (accq x q n h k) (prodq x q n h (k + 1))

theorem prod_eq (x : Vec F SX .f32) (q : Vec F SQ .f32) (s : Vec F SS .f32) (n h k : ℕ) :
    prod x (scratch q s (n / 18 + 1)) n h k = prodq x q n h k := by
  unfold prod prodq; rw [scratch_window]

theorem acc_eq (x : Vec F SX .f32) (q : Vec F SQ .f32) (s : Vec F SS .f32) (n h : ℕ) :
    ∀ k, acc x (scratch q s (n / 18 + 1)) n h k = accq x q n h k
  | 0 => prod_eq x q s n h 0
  | k + 1 => by
    show addf (acc x (scratch q s (n / 18 + 1)) n h k) (prod x (scratch q s (n / 18 + 1)) n h (k + 1)) = _
    rw [acc_eq x q s n h k, prod_eq]; rfl

/-- A tile, with its sums read off the query block. -/
theorem tile_eq (x : Vec F SX .f32) (q : Vec F SQ .f32) (s : Vec F SS .f32) (o : Vec F SO .f32) (n : ℕ) :
    tile x (scratch q s (n / 18 + 1)) o n
      = shapeCast T4 (addf (shapeCast T2 (VecWindow.window o (toff n) T4.size (toff_inb n)) T4_T2)
          (addf (accq x q n 0 15) (accq x q n 1 15))) T2_T4 := by
  unfold tile; rw [acc_eq, acc_eq]

/-- What the tiles leave does not depend on what the scratch held. -/
theorem outAfter_scratch (x : Vec F SX .f32) (q : Vec F SQ .f32) (s s' : Vec F SS .f32) (o : Vec F SO .f32) :
    ∀ n, outAfter x q s o n = outAfter x q s' o n
  | 0 => rfl
  | n + 1 => by
    show VecWindow.put (outAfter x q s o n) (toff n) T4.size (tile x (scratch q s (n / 18 + 1)) (outAfter x q s o n) n)
      = VecWindow.put (outAfter x q s' o n) (toff n) T4.size (tile x (scratch q s' (n / 18 + 1)) (outAfter x q s' o n) n)
    rw [outAfter_scratch x q s s' o n, tile_eq, tile_eq]

end Any

/-! ## Over the extended reals -/

/-- The element of the reference block that output element `y` takes from channel `c`. -/
def xi (y : SO.Idx) (c : ℕ) : SX.Idx := fun a => ⟨(![0, c % 32, (y 2).val, (y 3).val] : Fin 4 → ℕ) a, by
  have h2 : (y 2).val < 128 := (y 2).isLt
  have h3 : (y 3).val < 256 := (y 3).isLt
  match a with
  | ⟨0, _⟩ => show 0 < 1; omega
  | ⟨1, _⟩ => show c % 32 < 32; omega
  | ⟨2, _⟩ => exact h2
  | ⟨3, _⟩ => exact h3⟩

/-- The element of the padded query block that output element `y` takes from channel `c`. -/
def qi (y : SO.Idx) (c : ℕ) : SQ.Idx :=
  fun a => ⟨(![0, c % 32, (y 2).val + (y 1).val / 9, (y 3).val + (y 1).val % 9] : Fin 4 → ℕ) a, by
  have h1 : (y 1).val < 81 := (y 1).isLt
  have h2 : (y 2).val < 128 := (y 2).isLt
  have h3 : (y 3).val < 256 := (y 3).isLt
  match a with
  | ⟨0, _⟩ => show 0 < 1; omega
  | ⟨1, _⟩ => show c % 32 < 32; omega
  | ⟨2, _⟩ => show (y 2).val + (y 1).val / 9 < 136; omega
  | ⟨3, _⟩ => show (y 3).val + (y 1).val % 9 < 264; omega⟩

/-- One channel's product at output element `y`. -/
def term (x : Vec Ideal SX .f32) (q : Vec Ideal SQ .f32) (y : SO.Idx) (c : ℕ) : EReal := (x (xi y c) : EReal) * (q (qi y c) : EReal)

/-- The sum of the products over a block's 32 channels. -/
def dot (x : Vec Ideal SX .f32) (q : Vec Ideal SQ .f32) (y : SO.Idx) : EReal := ∑ c ∈ Finset.range 32, term x q y c

/-- The output element at place `j` of tile `n`. -/
abbrev place (n : ℕ) (j : T4.Idx) : SO.Idx := (Rect.unit (s := SO) (toff n) T4.size (toff_inb n)).emb j

theorem cast_back {α : Type} (w : T4.Idx → α) (j : T4.Idx) :
    shapeCast T2 w T4_T2 (Shape.reshapeEquiv T2_T4 j) = w j := congrFun (shapeCast_shapeCast w T4_T2 T2_T4) j

theorem prodq_apply (x : Vec Ideal SX .f32) (q : Vec Ideal SQ .f32) (n h k : ℕ) (j : T4.Idx) :
    (prodq x q n h k (Shape.reshapeEquiv T2_T4 j) : EReal) = term x q (place n j) (chan h k) := by
  have j0 : (j 0).val < 1 := (j 0).isLt
  have j1 : (j 1).val < 1 := (j 1).isLt
  have hc := chan_lt h k
  have ex : VecWindow.window x (xoff n (chan h k)) T4.size (xoff_inb n h k) j = x (xi (place n j) (chan h k)) :=
    congrArg x (funext fun a => Fin.ext (by
      match a with
      | ⟨0, _⟩ => show 0 + 1 * (j 0).val = 0; omega
      | ⟨1, _⟩ => show chan h k + 1 * (j 1).val = chan h k % 32; omega
      | ⟨2, _⟩ => show 0 + 1 * (j 2).val = 0 + 1 * (j 2).val; rfl
      | ⟨3, _⟩ => show 128 * (n % 2) + 1 * (j 3).val = 128 * (n % 2) + 1 * (j 3).val; rfl))
  have eq : VecWindow.window q (qwin n (chan h k)) T4.size (qwin_inb n h k) j = q (qi (place n j) (chan h k)) :=
    congrArg q (funext fun a => Fin.ext (by
      match a with
      | ⟨0, _⟩ => show 0 + 1 * (j 0).val = 0; omega
      | ⟨1, _⟩ => show chan h k + 1 * (j 1).val = chan h k % 32; omega
      | ⟨2, _⟩ => show n / 2 % 9 + 1 * (j 2).val = (0 + 1 * (j 2).val) + (n / 2 % 9 * 9 + n / 18 % 9 + 1 * (j 1).val) / 9; omega
      | ⟨3, _⟩ => show n / 18 % 9 + 128 * (n % 2) + 1 * (j 3).val
            = (128 * (n % 2) + 1 * (j 3).val) + (n / 2 % 9 * 9 + n / 18 % 9 + 1 * (j 1).val) % 9; omega))
  show (shapeCast T2 (VecWindow.window x (xoff n (chan h k)) T4.size (xoff_inb n h k)) T4_T2 (Shape.reshapeEquiv T2_T4 j) : EReal)
    * (shapeCast T2 (VecWindow.window q (qwin n (chan h k)) T4.size (qwin_inb n h k)) T4_T2 (Shape.reshapeEquiv T2_T4 j) : EReal) = _
  rw [cast_back, cast_back, ex, eq]; rfl

theorem accq_apply (x : Vec Ideal SX .f32) (q : Vec Ideal SQ .f32) (n h : ℕ) (j : T4.Idx) : ∀ k,
    (accq x q n h k (Shape.reshapeEquiv T2_T4 j) : EReal) = ∑ i ∈ Finset.range (k + 1), term x q (place n j) (chan h i)
  | 0 => by rw [Finset.sum_range_one]; exact prodq_apply x q n h 0 j
  | k + 1 => by
    show (accq x q n h k (Shape.reshapeEquiv T2_T4 j) : EReal) + (prodq x q n h (k + 1) (Shape.reshapeEquiv T2_T4 j) : EReal) = _
    rw [accq_apply x q n h j k, prodq_apply, Finset.sum_range_succ _ (k + 1)]

/-- The two half sums are the sum over the 32 channels. -/
theorem halves (f : ℕ → EReal) :
    (∑ i ∈ Finset.range 16, f (chan 0 i)) + ∑ i ∈ Finset.range 16, f (chan 1 i) = ∑ c ∈ Finset.range 32, f c := by
  have e0 : ∑ i ∈ Finset.range 16, f (chan 0 i) = ∑ i ∈ Finset.range 16, f i := Finset.sum_congr rfl fun i hi => by
    have := Finset.mem_range.mp hi
    rw [show chan 0 i = i by simp only [chan]; omega]
  have e1 : ∑ i ∈ Finset.range 16, f (chan 1 i) = ∑ i ∈ Finset.range 16, f (16 + i) := Finset.sum_congr rfl fun i hi => by
    have := Finset.mem_range.mp hi
    rw [show chan 1 i = 16 + i by simp only [chan]; omega]
  rw [e0, e1]; exact (Finset.sum_range_add f 16 16).symm

/-- A tile adds to every element it covers that element's sum over the block's channels. -/
theorem tile_apply (x : Vec Ideal SX .f32) (q : Vec Ideal SQ .f32) (s : Vec Ideal SS .f32) (o : Vec Ideal SO .f32) (n : ℕ) (j : T4.Idx) :
    (tile x (scratch q s (n / 18 + 1)) o n j : EReal) = (o (place n j) : EReal) + dot x q (place n j) := by
  rw [tile_eq]
  show (shapeCast T2 (VecWindow.window o (toff n) T4.size (toff_inb n)) T4_T2 (Shape.reshapeEquiv T2_T4 j) : EReal)
    + ((accq x q n 0 15 (Shape.reshapeEquiv T2_T4 j) : EReal) + (accq x q n 1 15 (Shape.reshapeEquiv T2_T4 j) : EReal)) = _
  rw [cast_back, accq_apply, accq_apply, halves]; rfl

/-- The tile that covers output element `y`. -/
abbrev tileOf (y : SO.Idx) : ℕ := (y 1).val % 9 * 18 + (y 1).val / 9 * 2 + (y 3).val / 128

theorem tile_digits (A B C n : ℕ) (hB : B < 9) (hC : C < 2) (hA : A < 9) (e : n = A * 18 + (B * 2 + C)) :
    n / 18 % 9 = A ∧ n / 2 % 9 = B ∧ n % 2 = C := by
  have h1 : n / 18 = A := by
    have hD : B * 2 + C < 18 := by omega
    generalize B * 2 + C = D at e hD
    omega
  have h2 : n / 2 = A * 9 + B := by omega
  refine ⟨by omega, by omega, by omega⟩

/-- After `n` tiles, the elements those cover have their sums added and the others are as they were. -/
theorem outAfter_apply (x : Vec Ideal SX .f32) (q : Vec Ideal SQ .f32) (s : Vec Ideal SS .f32) (o : Vec Ideal SO .f32) (y : SO.Idx) :
    ∀ n, n ≤ 162 → (outAfter x q s o n y : EReal) = if tileOf y < n then (o y : EReal) + dot x q y else (o y : EReal)
  | 0, _ => (if_neg (Nat.not_lt_zero _)).symm
  | n + 1, hn => by
    have ih := outAfter_apply x q s o y n (by omega)
    have y1 : (y 1).val < 81 := (y 1).isLt
    have y3 : (y 3).val < 256 := (y 3).isLt
    show (VecWindow.put (outAfter x q s o n) (toff n) T4.size (tile x (scratch q s (n / 18 + 1)) (outAfter x q s o n) n) y : EReal) = _
    unfold VecWindow.put
    by_cases h : ∀ a, toff n a ≤ (y a).val ∧ (y a).val < toff n a + T4.size a
    · have h1 : n / 2 % 9 * 9 + n / 18 % 9 ≤ (y 1).val ∧ (y 1).val < n / 2 % 9 * 9 + n / 18 % 9 + 1 := h 1
      have h3 : 128 * (n % 2) ≤ (y 3).val ∧ (y 3).val < 128 * (n % 2) + 128 := h 3
      have hp : place n (Rect.unitLocal (s := SO) (off := toff n) (size := T4.size) y h) = y := funext fun a => Fin.ext (by
        show toff n a + 1 * ((y a).val - toff n a) = (y a).val
        have := (h a).1; omega)
      have ht : tileOf y = n := by
        have e1 : (y 1).val % 9 = n / 18 := by omega
        have e2 : (y 1).val / 9 = n / 2 % 9 := by omega
        have e3 : (y 3).val / 128 = n % 2 := by omega
        have e4 := Nat.div_div_eq_div_mul n 2 9
        simp only [tileOf, e1, e2, e3]; omega
      rw [dif_pos h, tile_apply, hp, ih, if_neg (by omega), if_pos (by omega)]
    · have ht : tileOf y ≠ n := by
        intro e
        apply h
        have y0 : (y 0).val < 1 := (y 0).isLt
        have y2 : (y 2).val < 128 := (y 2).isLt
        obtain ⟨e1, e2, e3⟩ := tile_digits ((y 1).val % 9) ((y 1).val / 9) ((y 3).val / 128) n (by omega) (by omega) (by omega)
          (by simp only [tileOf] at e; omega)
        intro a
        match a with
        | ⟨0, _⟩ => show 0 ≤ (y 0).val ∧ (y 0).val < 0 + 1; omega
        | ⟨1, _⟩ => show n / 2 % 9 * 9 + n / 18 % 9 ≤ (y 1).val ∧ (y 1).val < n / 2 % 9 * 9 + n / 18 % 9 + 1; omega
        | ⟨2, _⟩ => show 0 ≤ (y 2).val ∧ (y 2).val < 0 + 128; omega
        | ⟨3, _⟩ => show 128 * (n % 2) ≤ (y 3).val ∧ (y 3).val < 128 * (n % 2) + 128; omega
      rw [dif_neg h, ih]
      by_cases hl : tileOf y < n
      · rw [if_pos hl, if_pos (by omega)]
      · rw [if_neg hl, if_neg (by omega)]

/-- All 162 tiles add to every element its sum over the block's channels. -/
theorem outAfter_all (x : Vec Ideal SX .f32) (q : Vec Ideal SQ .f32) (s : Vec Ideal SS .f32) (o : Vec Ideal SO .f32) (y : SO.Idx) :
    (outAfter x q s o 162 y : EReal) = (o y : EReal) + dot x q y := by
  have y1 : (y 1).val < 81 := (y 1).isLt
  have y3 : (y 3).val < 256 := (y 3).isLt
  rw [outAfter_apply x q s o y 162 le_rfl, if_pos (by simp only [tileOf]; omega)]

theorem zeros_apply (y : SO.Idx) : (zeros (F := Ideal) y : EReal) = 0 := Ideal.ofBits_zero_f32

theorem scaled_apply (o : Vec Ideal SO .f32) (y : SO.Idx) :
    (scaled o y : EReal) = (o y : EReal) * Ideal.ofBits .f32 0x3C000000#32 := rfl

end Cert.Model

end
-- ==== Proof.Cost.lean ====
/-
  The cost volume itself, over the extended reals: at batch b, displacement d = 9·dy + dx, row y and column x, the sum
  over the 128 channels of the reference features at (y, x) times the padded query features at (y + dy, x + dx),
  times 1/128.
-/
module

public import Idealize.ShloMosaic.Lib.Pointwise
public import Idealize.ShloMosaic.Lib.Pipeline.Value

@[expose] public section

noncomputable section

namespace Cert.Cost

open Idealize.ShloMosaic

/-- the two arguments -/
abbrev SR : Shape := ⟨4, ![8, 128, 128, 256]⟩
/-- the padded query features -/
abbrev SP : Shape := ⟨4, ![8, 128, 136, 264]⟩
/-- the result -/
abbrev SV : Shape := ⟨4, ![8, 81, 128, 256]⟩

/-- The element of the reference features that result element `y` takes from channel `c`. -/
def ri (y : SV.Idx) (c : ℕ) : SR.Idx := fun a => ⟨(![(y 0).val, c % 128, (y 2).val, (y 3).val] : Fin 4 → ℕ) a, by
  have h0 : (y 0).val < 8 := (y 0).isLt
  have h2 : (y 2).val < 128 := (y 2).isLt
  have h3 : (y 3).val < 256 := (y 3).isLt
  match a with
  | ⟨0, _⟩ => exact h0
  | ⟨1, _⟩ => show c % 128 < 128; omega
  | ⟨2, _⟩ => exact h2
  | ⟨3, _⟩ => exact h3⟩

/-- The element of the padded query features that result element `y` takes from channel `c`. -/
def pi (y : SV.Idx) (c : ℕ) : SP.Idx :=
  fun a => ⟨(![(y 0).val, c % 128, (y 2).val + (y 1).val / 9, (y 3).val + (y 1).val % 9] : Fin 4 → ℕ) a, by
  have h0 : (y 0).val < 8 := (y 0).isLt
  have h1 : (y 1).val < 81 := (y 1).isLt
  have h2 : (y 2).val < 128 := (y 2).isLt
  have h3 : (y 3).val < 256 := (y 3).isLt
  match a with
  | ⟨0, _⟩ => exact h0
  | ⟨1, _⟩ => show c % 128 < 128; omega
  | ⟨2, _⟩ => show (y 2).val + (y 1).val / 9 < 136; omega
  | ⟨3, _⟩ => show (y 3).val + (y 1).val % 9 < 264; omega⟩

/-- The query features with four rows and columns of zeros around them. -/
def padded (a : FVec Ideal SR .f32) : FVec Ideal SP .f32 :=
  pad SP ![0, 0, 4, 4] ![0, 0, 4, 4] ![0, 0, 0, 0] a (sitofp .f32 (constantI ⟨0, ![]⟩ 32 0#32)) (by decide) (by decide)

/-- One channel's product. -/
def term (r : Vec Ideal SR .f32) (p : Vec Ideal SP .f32) (y : SV.Idx) (c : ℕ) : EReal := (r (ri y c) : EReal) * (p (pi y c) : EReal)

/-- The cost volume of the reference features and the padded query features. -/
def cost (r : Vec Ideal SR .f32) (p : Vec Ideal SP .f32) : Vec Ideal SV .f32 := fun y =>
  ((∑ c ∈ Finset.range 128, term r p y c) * Ideal.ofBits .f32 0x3C000000#32 : EReal)

/-- A sum over 128 channels, in four blocks of 32 added one after the other to zero. -/
theorem sum_blocks (f : ℕ → EReal) :
    (((0 + ∑ c ∈ Finset.range 32, f (32 * 0 + c)) + ∑ c ∈ Finset.range 32, f (32 * 1 + c))
        + ∑ c ∈ Finset.range 32, f (32 * 2 + c)) + ∑ c ∈ Finset.range 32, f (32 * 3 + c)
      = ∑ c ∈ Finset.range 128, f c := by
  rw [show (128 : ℕ) = 32 * 3 + 32 from rfl, Finset.sum_range_add, show (32 * 3 : ℕ) = 32 * 2 + 32 from rfl,
    Finset.sum_range_add, show (32 * 2 : ℕ) = 32 * 1 + 32 from rfl, Finset.sum_range_add, zero_add]
  simp

theorem word_128 : Ideal.ofBits .f32 0x43000000#32 = ((128 : ℝ) : EReal) := by
  simp [Ideal.ofBits, Ideal.ieee, -EReal.coe_mul]; norm_num

theorem word_1_128 : Ideal.ofBits .f32 0x3C000000#32 = ((128⁻¹ : ℝ) : EReal) := by
  simp [Ideal.ofBits, Ideal.ieee, -EReal.coe_mul]; norm_num

/-- Dividing by 128 is multiplying by 1/128. -/
theorem div_128 (x : EReal) : Ideal.div x (Ideal.ofBits .f32 0x43000000#32) = x * Ideal.ofBits .f32 0x3C000000#32 := by
  rw [word_128, word_1_128, EReal.coe_inv]
  exact if_neg (EReal.coe_eq_zero.not.mpr (by norm_num))

end Cert.Cost

end
-- ==== Proof.IdealBody.lean ====
/-
  The idealized kernel's body, run. The printed body is about twelve hundred windows of sixty statements each; the
  rules of `Proof/Steps.lean` and `Proof/Model.lean` step it one load, one copy and one tile at a time, and each
  copy and each tile is checked to be the one that `Proof/Model.lean` names.
-/
module

public import proofs.«01_k».proof.Proof.Model
public import proofs.«01_k».proof.KernelIdeal

@[expose] public section

set_option maxRecDepth 16384

noncomputable section

namespace Cert.KernelIdeal.Body

open Idealize.ShloMosaic Idealize.SL.Sem
open Cert.Steps Cert.Model

variable {F : FTy → Type} [FloatOps F] [Facts]

/-- The condition under which the body clears the output block: the first channel block. -/
abbrev atFirst (i : grid0.Coords) : Prop :=
  Scalar.cmpi .ne (Scalar.extui (Scalar.cmpi .eq (BitVec.ofNat 32 (i 1).val) 0#32)) 0#32 = 1#1

/-- The condition under which the body scales the output block: the last channel block. -/
abbrev atLast (i : grid0.Coords) : Prop :=
  Scalar.cmpi .ne (Scalar.extui (Scalar.cmpi .eq (BitVec.ofNat 32 (i 1).val) 3#32)) 0#32 = 1#1

set_option maxHeartbeats 0 in
/-- From an output block `o` and a scratch `s`, the body leaves the output block of `Model.outAfter` after all 162
    tiles, cleared before and scaled after where the conditions say so, and the scratch after its nine copies. -/
theorem body_runs (i : grid0.Coords) (Γ : Ctx nD τ sig (Elt F) Λ₀ SX SQ SO SS)
    (h2 : Γ.m2.IsWhole) (h3 : Γ.m3.IsWhole) (h4 : Γ.m4.IsWhole) (h5 : Γ.m5.IsWhole)
    (o : Vec F SO .f32) (s : Vec F SS .f32) :
    Runs Γ (cc0_corr_cost_volume i Γ.m2 h2 Γ.m3 h3 Γ.m4 h4 Γ.m5 h5) o s ⟨⟩
      (finish (atLast i) (instDecidableEqBitVec _ _)
        (outAfter Γ.x2 Γ.x3 s (begin (atFirst i) (instDecidableEqBitVec _ _) o) 162))
      (scratch Γ.x3 s 9) := by
  repeat' (first
    | with_reducible apply runs_load2
    | with_reducible apply runs_load5
    | with_reducible exact runs_pure
    | ((with_reducible apply runs_tile); (next => rfl); (next => rfl); (next => rfl))
    | with_reducible exact runs_load2_last
    | with_reducible exact runs_load5_last
    | with_reducible apply runs_load4
    | with_reducible apply runs_load3
    | with_reducible exact runs_load4_last
    | with_reducible exact runs_load3_last
    | ((with_reducible apply runs_copy); (next => rfl))
    | ((with_reducible apply runs_tile_last); (next => rfl); (next => rfl); (next => rfl))
    | ((with_reducible apply runs_copy_last); (next => rfl))
    | with_reducible apply runs_end
    | with_reducible apply runs_begin
    | with_reducible apply runs_bind
    | apply runs_bind
    | apply runs_begin
    | apply runs_end
    | exact runs_pure)

end Cert.KernelIdeal.Body

end
-- ==== Proof.IdealLaunch.lean ====
/-
  The idealized kernel's launch: what the output block holds after each grid point, by recursion on the point, and the run of
  the whole program from any memory. Every argument array ends as it began, every semaphore counter ends at zero, and
  the result array ends at what the write-backs of the output block leave.
-/
module

public import proofs.«01_k».proof.Proof.Tiles
public import proofs.«01_k».proof.Proof.IdealBody
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Launch

open Cert.KernelIdeal.Gen Cert.Steps Cert.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the pipeline -/

/-- A core's buffers when the pipeline is entered: after the host's padding. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

set_option maxHeartbeats 800000 in
/-- The program is the host's operations, then the pipeline. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- The host writes neither argument. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-- Window `w`'s block at point `t`, as the pipeline finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's conditions -/

/-- The body clears the output block at the first of four channel blocks, -/
theorem atFirst_iff : ∀ t : Fin cfg0.N, Body.atFirst (grid0.coords t) ↔ t.val % 4 = 0 :=
  (fun t => by
    have ht : t.val < 32 := Nat.lt_of_lt_of_eq t.isLt N_0
    have e1 : (grid0.coords t 1).val = t.val / 1 % 4 := Pipeline.Grid.coords_val t 1 (by decide) rfl
    simp only [Body.atFirst, e1]
    word_cmp
   : ∀ t : Fin grid0.N, Body.atFirst (grid0.coords t) ↔ t.val % 4 = 0)
/-- and scales it at the last. -/
theorem atLast_iff : ∀ t : Fin cfg0.N, Body.atLast (grid0.coords t) ↔ t.val % 4 = 3 :=
  (fun t => by
    have ht : t.val < 32 := Nat.lt_of_lt_of_eq t.isLt N_0
    have e1 : (grid0.coords t 1).val = t.val / 1 % 4 := Pipeline.Grid.coords_val t 1 (by decide) rfl
    simp only [Body.atLast, e1]
    word_cmp
   : ∀ t : Fin grid0.N, Body.atLast (grid0.coords t) ↔ t.val % 4 = 3)

/-- Each window's staging buffer at point `t`, and the scratch. -/
abbrev ms0 (t : Fin cfg0.N) : Memref sig .tc .vmem S1x32x128x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x32x136x264 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x81x128x256 .f32 := win0_2.stage (cfg0.slots t 2)
abbrev hs2 (t : Fin cfg0.N) : (ms2 t).IsWhole := hstage0_2 ((cfg0.slots t 2).cast nbuf0_2)
abbrev scM : Memref sig .tc .vmem S2x32x136x256 .f32 := Memref.whole cc0_scratch0

/-- Between points the scratch is held at some contents. -/
theorem between_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the output block holds after each point -/

/-- Some contents of the scratch; which does not matter. -/
abbrev base : Vec F SS .f32 := broadcast SS (Scalar.ofBits .f32 0x00000000#32 : F .f32)

/-- What point `t` leaves in the output block if it finds `o` there. -/
def pointOut (c : Dev nD) (t : Fin cfg0.N) (o : Vec F SO .f32) : Vec F SO .f32 :=
  finish (Body.atLast (grid0.coords t)) (instDecidableEqBitVec _ _)
    (outAfter (iblk m c 0 t) (iblk m c 1 t) base (begin (Body.atFirst (grid0.coords t)) (instDecidableEqBitVec _ _) o) 162)

/-- What the output block holds after point `n`. -/
def blockAfter (c : Dev nD) : (n : ℕ) → n < cfg0.N → Vec F SO .f32
  | 0, hn => pointOut m c ⟨0, hn⟩ zeros
  | n + 1, hn => pointOut m c ⟨n + 1, hn⟩ (blockAfter c n (Nat.lt_of_succ_lt hn))

/-- The first channel block does not look at what it finds. -/
theorem pointOut_first (c : Dev nD) (t : Fin cfg0.N) (h : t.val % 4 = 0) (o o' : Vec F SO .f32) :
    pointOut m c t o = pointOut m c t o' := by
  unfold pointOut
  rw [begin_of ((atFirst_iff t).mpr h), begin_of ((atFirst_iff t).mpr h)]

/-- The pipeline's proof data: the inputs' blocks are left in place, the output's is `blockAfter`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockAfter m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = blockAfter m c t.val t.isLt := by dsimp only [dats]

/-- Before each point an input's staging buffer holds the point's block. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Before a point that is not the first of its four the output's holds what the point before left. -/
theorem before_2 (c : Dev nD) (t : Fin cfg0.N) (h0 : ¬t.val % 4 = 0) (d) :
    (dats m 0 c).before 2 t d = blockAfter m c (t.val - 1) (Nat.lt_of_le_of_lt (Nat.sub_le _ _) t.isLt) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]

/-- So each point leaves `blockAfter`, whatever the output's staging buffer held at the start. -/
theorem pointOut_before (c : Dev nD) (t : Fin cfg0.N) (d) :
    pointOut m c t ((dats m 0 c).before 2 t d) = blockAfter m c t.val t.isLt := by
  by_cases h0 : t.val % 4 = 0
  · rw [pointOut_first m c t h0 _ zeros]
    obtain ⟨n, hn⟩ := t
    cases n with
    | zero => rfl
    | succ n => exact pointOut_first m c ⟨n + 1, hn⟩ h0 _ _
  · rw [before_2 m c t h0 d]
    obtain ⟨n, hn⟩ := t
    cases n with
    | zero => exact absurd (Nat.zero_mod 4) h0
    | succ n => rfl

/-! ## The body, at every point -/

/-- The body's fixed parts at point `t`. -/
abbrev ctx (c : Dev nD) (t : Fin cfg0.N) : Ctx nD τ sig (Elt F) Λ₀ SX SQ SO SS where
  defs := defs₀ (F := F)
  c := c
  m2 := ms0 t
  m3 := ms1 t
  m4 := ms2 t
  m5 := scM
  x2 := iblk m c 0 t
  x3 := iblk m c 1 t

/-- The body at point `t`, from an output block at `o` and a scratch at `s`. -/
theorem body_wp (c : Dev nD) (t : Fin cfg0.N) (o o' : Vec F SO .f32) (s : Vec F SS .f32) (h : pointOut m c t o = o') (K : sProp 𝕄) :
    iprop((owns (c : Thread nD τ) (ms0 t) fullShare (iblk m c 0 t) ∗ owns (c : Thread nD τ) (ms1 t) fullShare (iblk m c 1 t)
        ∗ owns (c : Thread nD τ) (ms2 t) fullShare o ∗ owns (c : Thread nD τ) scM fullShare s)
      ∗ ((owns (c : Thread nD τ) (ms0 t) fullShare (iblk m c 0 t) ∗ owns (c : Thread nD τ) (ms1 t) fullShare (iblk m c 1 t)
        ∗ owns (c : Thread nD τ) (ms2 t) fullShare o' ∗ owns (c : Thread nD τ) scM fullShare (scratch (iblk m c 1 t) s 9)) -∗ K))
    ⊢ wp frame (wpE (defs₀ (F := F)) Variants.none c none) Set.univ (bodyAt0 t) (fun _ => K) := by
  have hr : Runs (ctx m c t) (bodyAt0 t) o s ⟨⟩ o' (scratch (iblk m c 1 t) s 9) := by
    have h1 := Body.body_runs (grid0.coords t) (ctx m c t) (hs0 t) (hs1 t) (hs2 t) (Memref.isWhole_whole _) o s
    rw [outAfter_scratch _ _ s base] at h1
    subst h
    exact h1
  exact hr.run Set.univ (fun _ => K)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1]
  rw [show (dats m 0 c).Φ t.succ = (dats m 0 c).Φ t.castSucc from rfl,
    show (dats m 0 c).owesAt () t.succ = (dats m 0 c).owesAt () t.castSucc from rfl,
    after_0, after_1, after_2]
  rw [show (dats m 0 c).Φ t.castSucc = Pipeline.ΦA spec0 c from rfl, between_eq]
  iintro ⟨⟨⟨%s, HS⟩, Hg⟩, Ho, ⟨%d0, H0⟩, ⟨%d1, H1⟩, ⟨%d2, H2⟩⟩
  iapply (body_wp m c t _ _ s (pointOut_before m c t d2) _)
  isplitl [H0 H1 H2 HS]
  · isplitl [H0]; · iexact H0
    isplitl [H1]; · iexact H1
    isplitl [H2]; · iexact H2
    iexact HS
  iintro ⟨H0, H1, H2, HS⟩
  isplitl [HS Hg]
  · isplitl [HS]
    · iexists _; iexact HS
    iexact Hg
  isplitl [Ho]; · iexact Ho
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run ends with the arrays at what the pipeline's proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every run ends with the result array at what the write-backs leave and the argument arrays as they began. -/
theorem run_result : θ_run defs (onTc (τ := τ) (main (F := F))) ⟨m, fun _ => 0, ρ⟩ (fun r => ∀ c : Dev nD,
      r.2.mem ((c.tc : Thread nD τ).loc main_v1) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 2,
      ((h c).1 0).trans (((dats m 0 c).arrAt_in 0 rfl _).trans ((A_eq m c 0).trans (V_arg0 m c))),
      ((h c).2 main_arg1 (Pipeline.mem_restRefs_of main_arg1 (by decide) (by decide))).trans (V_arg1 m c)⟩) (run_main m ρ)

/-- The frame: the argument arrays end as they began and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and ((θ_run defs _ _).mono (fun _ h c => (h c).2) (run_result m ρ))
    ((θ_run defs _ _).mono (fun _ h => h.2) (run_main_quiescent m ρ))

end Cert.KernelIdeal.Launch

end
-- ==== Proof.IdealValue.lean ====
/-
  What the idealized kernel computes: the array that its write-backs leave is the cost volume of its arguments.
-/
module

public import proofs.«01_k».proof.Proof.Cost
public import proofs.«01_k».proof.Proof.IdealLaunch
public import Idealize.ShloMosaic.Lib.Pipeline.ValueKit

@[expose] public section

set_option maxRecDepth 16384

noncomputable section

namespace Cert.KernelIdeal.Launch

open Cert.KernelIdeal Cert.KernelIdeal.Gen Cert.Steps Cert.Model
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-- The pipeline finds the query features padded. -/
theorem V_v0 (c : Dev nD) : V m c main_v0 = Cost.padded (m ((c : Thread nD τ).loc main_arg1)) := by
  first
    | (entry_read; rfl)
    | entry_read
    | (unfold_abbrev_sides; after_results; rfl)
    | (show StableHlo.after _ _ _ = _
       simp only [hostOps0, hostOps0_1, List.flatten_cons, List.flatten_nil, List.append_nil, List.cons_append, List.nil_append]
       after_results
       rfl)

/-! ## Where the blocks lie -/

theorem index_0 : ∀ t : Fin cfg0.N, win0_0.index t 0 = t.val / 4 ∧ win0_0.index t 1 = t.val % 4
    ∧ win0_0.index t 2 = 0 ∧ win0_0.index t 3 = 0 := by decide +kernel
theorem index_1 : ∀ t : Fin cfg0.N, win0_1.index t 0 = t.val / 4 ∧ win0_1.index t 1 = t.val % 4
    ∧ win0_1.index t 2 = 0 ∧ win0_1.index t 3 = 0 := by decide +kernel
theorem index_2 : ∀ t : Fin cfg0.N, win0_2.index t 0 = t.val / 4 ∧ win0_2.index t 1 = 0
    ∧ win0_2.index t 2 = 0 ∧ win0_2.index t 3 = 0 := by decide +kernel

theorem emb_0 (t : Fin cfg0.N) (x : SX.Idx) :
    ((win0_0.blk t).view.emb x 0).val = t.val / 4 + (x 0).val ∧ ((win0_0.blk t).view.emb x 1).val = t.val % 4 * 32 + (x 1).val
    ∧ ((win0_0.blk t).view.emb x 2).val = (x 2).val ∧ ((win0_0.blk t).view.emb x 3).val = (x 3).val := by
  obtain ⟨h0, h1, h2, h3⟩ := index_0 t
  refine ⟨?_, ?_, ?_, ?_⟩ <;> blk_simp [h0, h1, h2, h3]
theorem emb_1 (t : Fin cfg0.N) (x : SQ.Idx) :
    ((win0_1.blk t).view.emb x 0).val = t.val / 4 + (x 0).val ∧ ((win0_1.blk t).view.emb x 1).val = t.val % 4 * 32 + (x 1).val
    ∧ ((win0_1.blk t).view.emb x 2).val = (x 2).val ∧ ((win0_1.blk t).view.emb x 3).val = (x 3).val := by
  obtain ⟨h0, h1, h2, h3⟩ := index_1 t
  refine ⟨?_, ?_, ?_, ?_⟩ <;> blk_simp [h0, h1, h2, h3]
theorem emb_2 (t : Fin cfg0.N) (x : SO.Idx) :
    ((win0_2.blk t).view.emb x 0).val = t.val / 4 + (x 0).val ∧ ((win0_2.blk t).view.emb x 1).val = (x 1).val
    ∧ ((win0_2.blk t).view.emb x 2).val = (x 2).val ∧ ((win0_2.blk t).view.emb x 3).val = (x 3).val := by
  obtain ⟨h0, h1, h2, h3⟩ := index_2 t
  refine ⟨?_, ?_, ?_, ?_⟩ <;> blk_simp [h0, h1, h2, h3]

/-- A block's sum is the sum of the result element's products over the block's 32 channels. -/
theorem dot_blk (c : Dev nD) (t : Fin cfg0.N) (y : SO.Idx) (Y : Cost.SV.Idx) (k : ℕ) (hk : t.val % 4 = k)
    (h0 : (Y 0).val = t.val / 4) (h1 : (Y 1).val = (y 1).val) (h2 : (Y 2).val = (y 2).val) (h3 : (Y 3).val = (y 3).val) :
    dot (iblk m c 0 t) (iblk m c 1 t) y
      = ∑ i ∈ Finset.range 32, Cost.term (V m c main_arg0) (V m c main_v0) Y (32 * k + i) := by
  refine Finset.sum_congr rfl fun i hi => ?_
  have hi : i < 32 := Finset.mem_range.mp hi
  obtain ⟨a0, a1, a2, a3⟩ := emb_0 t (xi y i)
  obtain ⟨b0, b1, b2, b3⟩ := emb_1 t (qi y i)
  refine congrArg₂ (fun a b : EReal => a * b)
    (congrArg (V m c main_arg0) (funext fun a => Fin.ext ?_ : (win0_0.blk t).view.emb (xi y i) = Cost.ri Y (32 * k + i)))
    (congrArg (V m c main_v0) (funext fun a => Fin.ext ?_ : (win0_1.blk t).view.emb (qi y i) = Cost.pi Y (32 * k + i)))
  · match a with
    | ⟨0, _⟩ => refine a0.trans ?_; show t.val / 4 + 0 = (Y 0).val; omega
    | ⟨1, _⟩ => refine a1.trans ?_; show t.val % 4 * 32 + i % 32 = (32 * k + i) % 128; omega
    | ⟨2, _⟩ => refine a2.trans ?_; show (y 2).val = (Y 2).val; omega
    | ⟨3, _⟩ => refine a3.trans ?_; show (y 3).val = (Y 3).val; omega
  · match a with
    | ⟨0, _⟩ => refine b0.trans ?_; show t.val / 4 + 0 = (Y 0).val; omega
    | ⟨1, _⟩ => refine b1.trans ?_; show t.val % 4 * 32 + i % 32 = (32 * k + i) % 128; omega
    | ⟨2, _⟩ => refine b2.trans ?_; show (y 2).val + (y 1).val / 9 = (Y 2).val + (Y 1).val / 9; rw [h1, h2]
    | ⟨3, _⟩ => refine b3.trans ?_; show (y 3).val + (y 1).val % 9 = (Y 3).val + (Y 1).val % 9; rw [h1, h3]

/-! ## The four channel blocks of a batch -/

theorem pointOut_0 (c : Dev nD) (t : Fin cfg0.N) (o : Vec Ideal SO .f32) (y : SO.Idx) (h : t.val % 4 = 0) :
    (pointOut m c t o y : EReal) = 0 + dot (iblk m c 0 t) (iblk m c 1 t) y := by
  unfold pointOut
  rw [begin_of ((atFirst_iff t).mpr h), finish_not (fun hl => by have := (atLast_iff t).mp hl; omega), outAfter_all, zeros_apply]
theorem pointOut_1 (c : Dev nD) (t : Fin cfg0.N) (o : Vec Ideal SO .f32) (y : SO.Idx) (h : t.val % 4 ≠ 0) (h' : t.val % 4 ≠ 3) :
    (pointOut m c t o y : EReal) = (o y : EReal) + dot (iblk m c 0 t) (iblk m c 1 t) y := by
  unfold pointOut
  rw [begin_not (fun hf => h ((atFirst_iff t).mp hf)), finish_not (fun hl => h' ((atLast_iff t).mp hl)), outAfter_all]
theorem pointOut_3 (c : Dev nD) (t : Fin cfg0.N) (o : Vec Ideal SO .f32) (y : SO.Idx) (h : t.val % 4 = 3) :
    (pointOut m c t o y : EReal) = ((o y : EReal) + dot (iblk m c 0 t) (iblk m c 1 t) y) * Ideal.ofBits .f32 0x3C000000#32 := by
  unfold pointOut
  rw [begin_not (fun hf => by have := (atFirst_iff t).mp hf; omega), finish_of ((atLast_iff t).mpr h), scaled_apply, outAfter_all]

theorem blockAfter_first (c : Dev nD) (y : SO.Idx) : ∀ (n : ℕ) (hn : n < cfg0.N), n % 4 = 0 →
    (blockAfter m c n hn y : EReal) = 0 + dot (iblk m c 0 ⟨n, hn⟩) (iblk m c 1 ⟨n, hn⟩) y
  | 0, hn, h => pointOut_0 m c ⟨0, hn⟩ _ y h
  | n + 1, hn, h => pointOut_0 m c ⟨n + 1, hn⟩ _ y h

/-- After a batch's last channel block its output block holds the cost volume. -/
theorem blockAfter_last (c : Dev nD) (n : ℕ) (hn : n + 3 < cfg0.N) (h : n % 4 = 0) (y : SO.Idx) (Y : Cost.SV.Idx)
    (h0 : (Y 0).val = n / 4) (h1 : (Y 1).val = (y 1).val) (h2 : (Y 2).val = (y 2).val) (h3 : (Y 3).val = (y 3).val) :
    (blockAfter m c (n + 3) hn y : EReal) = Cost.cost (V m c main_arg0) (V m c main_v0) Y := by
  have e3 : (blockAfter m c (n + 3) hn y : EReal) = _ := pointOut_3 m c ⟨n + 3, hn⟩ (blockAfter m c (n + 2) (by omega)) y (by show (n + 3) % 4 = 3; omega)
  have e2 : (blockAfter m c (n + 2) (by omega) y : EReal) = _ := pointOut_1 m c ⟨n + 2, by omega⟩ (blockAfter m c (n + 1) (by omega)) y
    (by show (n + 2) % 4 ≠ 0; omega) (by show (n + 2) % 4 ≠ 3; omega)
  have e1 : (blockAfter m c (n + 1) (by omega) y : EReal) = _ := pointOut_1 m c ⟨n + 1, by omega⟩ (blockAfter m c n (by omega)) y
    (by show (n + 1) % 4 ≠ 0; omega) (by show (n + 1) % 4 ≠ 3; omega)
  have e0 := blockAfter_first m c y n (by omega) h
  rw [e3, e2, e1, e0,
    dot_blk m c ⟨n, by omega⟩ y Y 0 (by show n % 4 = 0; omega) (by show (Y 0).val = n / 4; omega) h1 h2 h3,
    dot_blk m c ⟨n + 1, by omega⟩ y Y 1 (by show (n + 1) % 4 = 1; omega) (by show (Y 0).val = (n + 1) / 4; omega) h1 h2 h3,
    dot_blk m c ⟨n + 2, by omega⟩ y Y 2 (by show (n + 2) % 4 = 2; omega) (by show (Y 0).val = (n + 2) / 4; omega) h1 h2 h3,
    dot_blk m c ⟨n + 3, hn⟩ y Y 3 (by show (n + 3) % 4 = 3; omega) (by show (Y 0).val = (n + 3) / 4; omega) h1 h2 h3,
    Cost.sum_blocks]
  rfl

/-- The same, at the last point of a batch. -/
theorem after_last (c : Dev nD) (t : Fin cfg0.N) (hf : t.val % 4 = 3) (y : SO.Idx) :
    (blockAfter m c t.val t.isLt y : EReal) = Cost.cost (V m c main_arg0) (V m c main_v0) ((win0_2.blk t).view.emb y) := by
  obtain ⟨a0, a1, a2, a3⟩ := emb_2 t y
  have y0 : (y 0).val < 1 := (y 0).isLt
  obtain ⟨n, hn⟩ := t
  obtain ⟨k, rfl⟩ : ∃ k, n = k + 3 := ⟨n - 3, by simp only at hf; omega⟩
  have hf' : (k + 3) % 4 = 3 := hf
  refine blockAfter_last m c k hn (by omega) y _ (a0.trans ?_) a1 a2 a3
  show (k + 3) / 4 + (y 0).val = k / 4
  omega

/-- The result array ends at the cost volume. -/
theorem result (c : Dev nD) : (dats m 0 c).arrAt 2 cfg0.N
    = Cost.cost (m ((c : Thread nD τ).loc main_arg0)) (Cost.padded (m ((c : Thread nD τ).loc main_arg1))) := by
  rw [← V_arg0 m c, ← V_v0 m c]
  refine (dats m 0 c).arrAt_eq_of_covers 2 _ (by decide +kernel) fun t hf y => ?_
  first
    | (blk_simp
       rw [after_2]
       exact after_last m c t ((flush0_2 t).mp hf) y)
    | (rw [after_2]
       exact after_last m c t ((flush0_2 t).mp hf) y)
    | (refine (congrFun (after_2 m c t) y).trans ?_
       exact after_last m c t ((flush0_2 t).mp hf) y)

end Cert.KernelIdeal.Launch

end
-- ==== Proof.RefValue.lean ====
/-
  What the reference computes, element by element: the concatenation of nine rows of nine means is the cost volume.
-/
module

public import proofs.«01_k».proof.Proof.Cost
public import proofs.«01_k».proof.Proof.Gen.ReferenceIdeal.Run

@[expose] public section

set_option maxRecDepth 16384

noncomputable section

namespace Cert.ReferenceIdeal.Mean

open Cert.ReferenceIdeal Cert.ReferenceIdeal.Gen Cert.ReferenceIdeal.Value Cert.Cost
open Idealize.ShloMosaic Idealize.ShloMosaic.TcCoe Idealize.SL.Sem Idealize.ShloMosaic.StableHlo

theorem slices_ok : ∀ dy dx : Fin 9, S8x128x136x264.Slices ![0, 0, dy.val, dx.val] S8x128x128x256 := by decide

/-- One displacement's mean over the channels. -/
def piece (r : FVec Ideal S8x128x128x256 .f32) (p : FVec Ideal S8x128x136x264 .f32) (dy dx : Fin 9) : FVec Ideal S8x1x128x256 .f32 :=
  broadcastInDim S8x1x128x256 ![0, 2, 3] (by decide)
    (Host.divf (Host.reduceAdd (mulf r (extractStridedSlice S8x128x128x256 ![0, 0, dy.val, dx.val] p (slices_ok dy dx)))
      (constant S_ .f32 0x00000000#32) (by decide : S8x128x128x256.ReducesTo [1] S8x128x256) (by decide))
      (broadcastInDim S8x128x256 ![] (by decide) (constant S_ .f32 0x43000000#32)))

/-- A mean at an element. -/
theorem piece_apply (r : FVec Ideal S8x128x128x256 .f32) (p : FVec Ideal S8x128x136x264 .f32) (dy dx : Fin 9) (y : SV.Idx)
    (hy : (y 1).val / 9 = dy.val) (hx : (y 1).val % 9 = dx.val) (j : S8x1x128x256.Idx)
    (j0 : (j 0).val = (y 0).val) (j2 : (j 2).val = (y 2).val) (j3 : (j 3).val = (y 3).val) :
    (piece r p dy dx j : EReal) = cost r p y := by
  have e : (piece r p dy dx j : EReal)
      = Ideal.div (∑ k : Fin 128, term r p y k.val) (Ideal.ofBits .f32 0x43000000#32) := by
    pointwise [piece]
    refine congrArg (fun s => Ideal.div s _) (Finset.sum_congr rfl fun k _ => ?_)
    have hk : k.val % 128 = k.val := Nat.mod_eq_of_lt k.isLt
    refine congrArg₂ (fun a b : EReal => a * b) (congrArg r (funext fun a => Fin.ext ?_)) (congrArg p (funext fun a => Fin.ext ?_))
    · match a with
      | ⟨0, _⟩ => exact j0
      | ⟨1, _⟩ => exact hk.symm
      | ⟨2, _⟩ => exact j2
      | ⟨3, _⟩ => exact j3
    · match a with
      | ⟨0, _⟩ => exact j0
      | ⟨1, _⟩ => exact hk.symm
      | ⟨2, _⟩ => show dy.val + (j 2).val = (y 2).val + (y 1).val / 9; omega
      | ⟨3, _⟩ => show dx.val + (j 3).val = (y 3).val + (y 1).val % 9; omega
  rw [e, div_128]
  unfold cost
  rw [Finset.sum_range]

/-- Nine displacements stacked, read at an element. -/
theorem stack_apply (u : Fin 9 → FVec Ideal S8x1x128x256 .f32)
    (h : Shape.Concatenates (([⟨S8x1x128x256, u 0⟩, ⟨S8x1x128x256, u 1⟩, ⟨S8x1x128x256, u 2⟩, ⟨S8x1x128x256, u 3⟩, ⟨S8x1x128x256, u 4⟩,
      ⟨S8x1x128x256, u 5⟩, ⟨S8x1x128x256, u 6⟩, ⟨S8x1x128x256, u 7⟩, ⟨S8x1x128x256, u 8⟩] : List (Σ s : Shape, s.Idx → Ideal .f32)).map (·.1)) S8x9x128x256 1)
    (j : S8x9x128x256.Idx) (k : Fin 9) (hk : (j 1).val = k.val) :
    concatenate S8x9x128x256 1 [⟨S8x1x128x256, u 0⟩, ⟨S8x1x128x256, u 1⟩, ⟨S8x1x128x256, u 2⟩, ⟨S8x1x128x256, u 3⟩, ⟨S8x1x128x256, u 4⟩,
      ⟨S8x1x128x256, u 5⟩, ⟨S8x1x128x256, u 6⟩, ⟨S8x1x128x256, u 7⟩, ⟨S8x1x128x256, u 8⟩] h j = u k (ix4 (j 0) 0 (j 2) (j 3)) := by
  pointwise
  fin_cases k <;> simp_all

end Cert.ReferenceIdeal.Mean

end
-- ==== Proof.RefRun.lean ====
/-
  What the reference computes: every run of it ends with the cost volume of its arguments.
-/
module

public import proofs.«01_k».proof.Proof.RefValue

@[expose] public section

noncomputable section

namespace Cert.ReferenceIdeal.Mean

open Cert.ReferenceIdeal Cert.ReferenceIdeal.Gen Cert.ReferenceIdeal.Value Cert.Cost
open Idealize.ShloMosaic Idealize.ShloMosaic.TcCoe Idealize.SL.Sem Idealize.ShloMosaic.StableHlo

/-- Nine rows of nine displacements, one after the other, read at an element. -/
theorem rows_apply (u : Fin 9 → FVec Ideal S8x9x128x256 .f32)
    (h : Shape.Concatenates (([⟨S8x9x128x256, u 0⟩, ⟨S8x9x128x256, u 1⟩, ⟨S8x9x128x256, u 2⟩, ⟨S8x9x128x256, u 3⟩, ⟨S8x9x128x256, u 4⟩, ⟨S8x9x128x256, u 5⟩, ⟨S8x9x128x256, u 6⟩, ⟨S8x9x128x256, u 7⟩, ⟨S8x9x128x256, u 8⟩] : List (Σ s : Shape, s.Idx → Ideal .f32)).map (·.1)) S8x81x128x256 1)
    (j : S8x81x128x256.Idx) (k : Fin 9) (hk : (j 1).val / 9 = k.val) :
    concatenate S8x81x128x256 1 [⟨S8x9x128x256, u 0⟩, ⟨S8x9x128x256, u 1⟩, ⟨S8x9x128x256, u 2⟩, ⟨S8x9x128x256, u 3⟩, ⟨S8x9x128x256, u 4⟩, ⟨S8x9x128x256, u 5⟩, ⟨S8x9x128x256, u 6⟩, ⟨S8x9x128x256, u 7⟩, ⟨S8x9x128x256, u 8⟩] h j
      = u k (ix4 (j 0) ⟨(j 1).val % 9, Nat.mod_lt _ (by decide)⟩ (j 2) (j 3)) := by
  pointwise
  obtain ⟨k, hk9⟩ := k
  interval_cases k <;> dsimp only at hk <;> (repeat rw [dif_neg (by omega)]) <;> (try rw [dif_pos (by omega)]) <;>
    (refine congrArg (u _) (funext fun a => Fin.ext ?_)
     match a with
     | ⟨0, _⟩ => rfl
     | ⟨1, _⟩ => (show _ = (j 1).val % 9; first | omega | (simp; omega) | (dsimp; omega))
     | ⟨2, _⟩ => rfl
     | ⟨3, _⟩ => rfl)

/-- The same, of rows that are equal to the given ones. -/
theorem rows_of (u : Fin 9 → FVec Ideal S8x9x128x256 .f32) (v0 v1 v2 v3 v4 v5 v6 v7 v8 : FVec Ideal S8x9x128x256 .f32)
    (h0 : v0 = u 0) (h1 : v1 = u 1) (h2 : v2 = u 2) (h3 : v3 = u 3) (h4 : v4 = u 4) (h5 : v5 = u 5) (h6 : v6 = u 6)
    (h7 : v7 = u 7) (h8 : v8 = u 8)
    (h : Shape.Concatenates (([⟨S8x9x128x256, v0⟩, ⟨S8x9x128x256, v1⟩, ⟨S8x9x128x256, v2⟩, ⟨S8x9x128x256, v3⟩, ⟨S8x9x128x256, v4⟩, ⟨S8x9x128x256, v5⟩, ⟨S8x9x128x256, v6⟩, ⟨S8x9x128x256, v7⟩, ⟨S8x9x128x256, v8⟩] : List (Σ s : Shape, s.Idx → Ideal .f32)).map (·.1)) S8x81x128x256 1)
    (j : S8x81x128x256.Idx) (k : Fin 9) (hk : (j 1).val / 9 = k.val) :
    concatenate S8x81x128x256 1 [⟨S8x9x128x256, v0⟩, ⟨S8x9x128x256, v1⟩, ⟨S8x9x128x256, v2⟩, ⟨S8x9x128x256, v3⟩, ⟨S8x9x128x256, v4⟩, ⟨S8x9x128x256, v5⟩, ⟨S8x9x128x256, v6⟩, ⟨S8x9x128x256, v7⟩, ⟨S8x9x128x256, v8⟩] h j
      = u k (ix4 (j 0) ⟨(j 1).val % 9, Nat.mod_lt _ (by decide)⟩ (j 2) (j 3)) := by
  subst h0 h1 h2 h3 h4 h5 h6 h7 h8
  exact rows_apply u h j k hk

/-- The row of nine displacements at one `dy`. -/
def row (r : FVec Ideal S8x128x128x256 .f32) (p : FVec Ideal S8x128x136x264 .f32) (dy : Fin 9) : FVec Ideal S8x9x128x256 .f32 :=
  concatenate S8x9x128x256 1 [⟨S8x1x128x256, piece r p dy 0⟩, ⟨S8x1x128x256, piece r p dy 1⟩, ⟨S8x1x128x256, piece r p dy 2⟩,
    ⟨S8x1x128x256, piece r p dy 3⟩, ⟨S8x1x128x256, piece r p dy 4⟩, ⟨S8x1x128x256, piece r p dy 5⟩, ⟨S8x1x128x256, piece r p dy 6⟩,
    ⟨S8x1x128x256, piece r p dy 7⟩, ⟨S8x1x128x256, piece r p dy 8⟩] concatenates_S8x1x128x256_S8x1x128x256_S8x1x128x256_S8x1x128x256_S8x1x128x256_S8x1x128x256_S8x1x128x256_S8x1x128x256_S8x1x128x256_S8x9x128x256_d1

/-- A row at an element. -/
theorem row_apply (r : FVec Ideal S8x128x128x256 .f32) (p : FVec Ideal S8x128x136x264 .f32) (dy : Fin 9) (y : SV.Idx)
    (hy : (y 1).val / 9 = dy.val) (j : S8x9x128x256.Idx)
    (j0 : (j 0).val = (y 0).val) (j1 : (y 1).val % 9 = (j 1).val) (j2 : (j 2).val = (y 2).val) (j3 : (j 3).val = (y 3).val) :
    (row r p dy j : EReal) = cost r p y := by
  have e1 := stack_apply (piece r p dy) concatenates_S8x1x128x256_S8x1x128x256_S8x1x128x256_S8x1x128x256_S8x1x128x256_S8x1x128x256_S8x1x128x256_S8x1x128x256_S8x1x128x256_S8x9x128x256_d1 j ⟨(j 1).val, (j 1).isLt⟩ rfl
  have e2 := piece_apply r p dy ⟨(j 1).val, (j 1).isLt⟩ y hy j1 (ix4 (j 0) 0 (j 2) (j 3)) j0 j2 j3
  exact e1.trans e2

variable (m : (ℓ : Loc nD τ sig) → Buf (Elt Ideal) ℓ)

/-- The program's nine rows. -/
theorem row_0 (c : Dev nD) : res_main_v55 (launchContents m c) = row (m ((c.tc : Thread nD τ).loc main_arg0)) (padded (m ((c.tc : Thread nD τ).loc main_arg1))) 0 := rfl
theorem row_1 (c : Dev nD) : res_main_v110 (launchContents m c) = row (m ((c.tc : Thread nD τ).loc main_arg0)) (padded (m ((c.tc : Thread nD τ).loc main_arg1))) 1 := rfl
theorem row_2 (c : Dev nD) : res_main_v165 (launchContents m c) = row (m ((c.tc : Thread nD τ).loc main_arg0)) (padded (m ((c.tc : Thread nD τ).loc main_arg1))) 2 := rfl
theorem row_3 (c : Dev nD) : res_main_v220 (launchContents m c) = row (m ((c.tc : Thread nD τ).loc main_arg0)) (padded (m ((c.tc : Thread nD τ).loc main_arg1))) 3 := rfl
theorem row_4 (c : Dev nD) : res_main_v275 (launchContents m c) = row (m ((c.tc : Thread nD τ).loc main_arg0)) (padded (m ((c.tc : Thread nD τ).loc main_arg1))) 4 := rfl
theorem row_5 (c : Dev nD) : res_main_v330 (launchContents m c) = row (m ((c.tc : Thread nD τ).loc main_arg0)) (padded (m ((c.tc : Thread nD τ).loc main_arg1))) 5 := rfl
theorem row_6 (c : Dev nD) : res_main_v385 (launchContents m c) = row (m ((c.tc : Thread nD τ).loc main_arg0)) (padded (m ((c.tc : Thread nD τ).loc main_arg1))) 6 := rfl
theorem row_7 (c : Dev nD) : res_main_v440 (launchContents m c) = row (m ((c.tc : Thread nD τ).loc main_arg0)) (padded (m ((c.tc : Thread nD τ).loc main_arg1))) 7 := rfl
theorem row_8 (c : Dev nD) : res_main_v495 (launchContents m c) = row (m ((c.tc : Thread nD τ).loc main_arg0)) (padded (m ((c.tc : Thread nD τ).loc main_arg1))) 8 := rfl

/-- Every run ends with the result array at the cost volume and the argument arrays as they began. -/
theorem run_cost (ρ : Dev nD → PrngReg) :
    θ_run defs (onTc (τ := τ) (main (F := Ideal))) ⟨m, fun _ => 0, ρ⟩ (fun r => ∀ c : Dev nD,
      r.2.mem ((c.tc : Thread nD τ).loc main_v496)
        = cost (m ((c.tc : Thread nD τ).loc main_arg0)) (padded (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (funext fun y => by
      have y1 : (y 1).val < 81 := (y 1).isLt
      exact (rows_of (row (m ((c.tc : Thread nD τ).loc main_arg0)) (padded (m ((c.tc : Thread nD τ).loc main_arg1)))) _ _ _ _ _ _ _ _ _
        (row_0 m c) (row_1 m c) (row_2 m c) (row_3 m c) (row_4 m c) (row_5 m c) (row_6 m c) (row_7 m c) (row_8 m c) _ y
        ⟨(y 1).val / 9, by omega⟩ rfl).trans (row_apply _ _ _ y rfl _ rfl rfl rfl rfl)), (h c).2⟩) (Value.run m ρ)

/-- The frame: the argument arrays end as they began, and every semaphore counter is zero, since there is none. -/
theorem frame (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (Value.run m ρ)

end Cert.ReferenceIdeal.Mean

end
-- ==== Proof.lean ====
module

public import proofs.«01_k».proof.Defs
public import proofs.«01_k».proof.Proof.KernelLaunch
public import proofs.«01_k».proof.Proof.IdealValue
public import proofs.«01_k».proof.Proof.RefRun
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The kernel leaves its arguments as they began and every semaphore counter at zero. -/
theorem frame_kernel : Cert.quiescent_Kernel := fun m g _ => Cert.Kernel.Launch.frame m g

/-- So does the idealized kernel, -/
theorem frame_ideal : Cert.quiescent_KernelIdeal := fun m g _ => Cert.KernelIdeal.Launch.frame m g

/-- and so does the reference. -/
theorem frame_reference : Cert.quiescent_ReferenceIdeal := fun m g _ => Cert.ReferenceIdeal.Mean.frame m g

/-- The idealized kernel and the reference, from equal arguments, end with the same result: the cost volume. -/
theorem same_result : Cert.algebraic_KernelIdeal_ReferenceIdeal := by
  intro m g m' g' _ hagree
  refine ⟨fun c => Cert.Cost.cost (m ((c.tc : Thread Cert.KernelIdeal.nD Cert.KernelIdeal.τ).loc Cert.KernelIdeal.main_arg0))
      (Cert.Cost.padded (m ((c.tc : Thread Cert.KernelIdeal.nD Cert.KernelIdeal.τ).loc Cert.KernelIdeal.main_arg1))), ?_, ?_⟩
  · exact (θ_run Cert.KernelIdeal.defs _ _).mono (fun r h c => ⟨(h c).1.trans (Cert.KernelIdeal.Launch.result m c), (h c).2⟩)
      (Cert.KernelIdeal.Launch.run_result m g)
  · refine (θ_run Cert.ReferenceIdeal.defs _ _).mono (fun r h c => ⟨(h c).1.trans ?_, (h c).2⟩)
      (Cert.ReferenceIdeal.Mean.run_cost m' g')
    rw [(hagree c).1, (hagree c).2]

theorem claim : Cert.Claim := ⟨Cert.Kernel.Gen.facts, Cert.KernelIdeal.Gen.facts, Cert.ReferenceIdeal.Gen.facts,
  frame_kernel, frame_ideal, frame_reference, trivial, same_result⟩

end Cert.Proof

end
